-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1024x2048 : Shape := ⟨2, ![1024, 2048]⟩
abbrev S256x1024 : Shape := ⟨2, ![256, 1024]⟩
abbrev S1024x256 : Shape := ⟨2, ![1024, 256]⟩
abbrev S7 : Shape := ⟨1, ![7]⟩
abbrev S256x384 : Shape := ⟨2, ![256, 384]⟩
abbrev S256x256 : Shape := ⟨2, ![256, 256]⟩
abbrev S3x256x384 : Shape := ⟨3, ![3, 256, 384]⟩
abbrev S3x256x256 : Shape := ⟨3, ![3, 256, 256]⟩
abbrev S2x3x3 : Shape := ⟨3, ![2, 3, 3]⟩
abbrev S1 : Shape := ⟨1, ![1]⟩
abbrev S_ : Shape := ⟨0, ![]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1024x384 : Shape := ⟨2, ![1024, 384]⟩
abbrev S128x384 : Shape := ⟨2, ![128, 384]⟩
abbrev S1x1x1 : Shape := ⟨3, ![1, 1, 1]⟩
abbrev S1x128x384 : Shape := ⟨3, ![1, 128, 384]⟩
abbrev S1x128x256 : Shape := ⟨3, ![1, 128, 256]⟩
abbrev S1x128x1024 : Shape := ⟨3, ![1, 128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1x256x1024, .f32⟩
  | .local _ .vmem, ⟨0, _⟩ => ⟨S256x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S256x1024, .f32⟩
  | .local _ .vmem, ⟨6, _⟩ => ⟨S256x384, .bf16⟩
  | .local _ .vmem, ⟨7, _⟩ => ⟨S256x384, .bf16⟩
  | .local _ .vmem, ⟨8, _⟩ => ⟨S256x256, .bf16⟩
  | .local _ .vmem, ⟨9, _⟩ => ⟨S3x256x384, .bf16⟩
  | .local _ .vmem, ⟨10, _⟩ => ⟨S3x256x384, .bf16⟩
  | .local _ .vmem, ⟨11, _⟩ => ⟨S3x256x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.muli v2 c2_i32
  let c128_i32 : BitVec 32 := 128#32
  let v4 : BitVec 32 := Scalar.muli v3 c128_i32
  ![0, v4.toNat]
def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v20 : BitVec 32 := Scalar.xori v2 c1_i32_7
  let c1_i32_9 : BitVec 32 := 1#32
  let v21 : BitVec 32 := Scalar.muli v20 c1_i32_9
  let v22 : BitVec 32 := Scalar.addi c0_i32_10 v21
  v22.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_11 : BitVec 32 := 3#32
  let v23 : BitVec 32 := Scalar.xori v2 c3_i32_11
  let c1_i32_13 : BitVec 32 := 1#32
  let v24 : BitVec 32 := Scalar.muli v23 c1_i32_13
  let v25 : BitVec 32 := Scalar.addi c0_i32_14 v24
  v25.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v26 : BitVec 32 := Scalar.xori v2 c4_i32_15
  let c1_i32_17 : BitVec 32 := 1#32
  let v27 : BitVec 32 := Scalar.muli v26 c1_i32_17
  let v28 : BitVec 32 := Scalar.addi c0_i32_18 v27
  v28.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v210 : BitVec 32 := Scalar.xori v2 c1_i32_84
  let c1_i32_92 : BitVec 32 := 1#32
  let v211 : BitVec 32 := Scalar.muli v210 c1_i32_92
  let v212 : BitVec 32 := Scalar.addi c0_i32_93 v211
  v212.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v227 : BitVec 32 := Scalar.xori v2 c3_i32_102
  let c1_i32_110 : BitVec 32 := 1#32
  let v228 : BitVec 32 := Scalar.muli v227 c1_i32_110
  let v229 : BitVec 32 := Scalar.addi c0_i32_111 v228
  v229.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v244 : BitVec 32 := Scalar.xori v2 c4_i32_120
  let c1_i32_128 : BitVec 32 := 1#32
  let v245 : BitVec 32 := Scalar.muli v244 c1_i32_128
  let v246 : BitVec 32 := Scalar.addi c0_i32_129 v245
  v246.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v409 : BitVec 32 := Scalar.xori v2 c1_i32_179
  let c1_i32_187 : BitVec 32 := 1#32
  let v410 : BitVec 32 := Scalar.muli v409 c1_i32_187
  let v411 : BitVec 32 := Scalar.addi c0_i32_188 v410
  v411.toNat
def k0_dev8 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_198 : BitVec 32 := 3#32
  let v426 : BitVec 32 := Scalar.xori v2 c3_i32_198
  let c1_i32_206 : BitVec 32 := 1#32
  let v427 : BitVec 32 := Scalar.muli v426 c1_i32_206
  let v428 : BitVec 32 := Scalar.addi c0_i32_207 v427
  v428.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_217 : BitVec 32 := 4#32
  let v443 : BitVec 32 := Scalar.xori v2 c4_i32_217
  let c1_i32_225 : BitVec 32 := 1#32
  let v444 : BitVec 32 := Scalar.muli v443 c1_i32_225
  let v445 : BitVec 32 := Scalar.addi c0_i32_226 v444
  v445.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_261 : BitVec 32 := 3#32
  let v471 : BitVec 32 := Scalar.xori v2 c3_i32_261
  let c1_i32_269 : BitVec 32 := 1#32
  let v472 : BitVec 32 := Scalar.muli v471 c1_i32_269
  let v473 : BitVec 32 := Scalar.addi c0_i32_270 v472
  v473.toNat
def k0_dev11 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_305 : BitVec 32 := 4#32
  let v499 : BitVec 32 := Scalar.xori v2 c4_i32_305
  let c1_i32_313 : BitVec 32 := 1#32
  let v500 : BitVec 32 := Scalar.muli v499 c1_i32_313
  let v501 : BitVec 32 := Scalar.addi c0_i32_314 v500
  v501.toNat
def k0_dev12 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v527 : BitVec 32 := Scalar.xori v2 c1_i32_349
  let c1_i32_357 : BitVec 32 := 1#32
  let v528 : BitVec 32 := Scalar.muli v527 c1_i32_357
  let v529 : BitVec 32 := Scalar.addi c0_i32_358 v528
  v529.toNat
def k0_dev13 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_393 : BitVec 32 := 3#32
  let v555 : BitVec 32 := Scalar.xori v2 c3_i32_393
  let c1_i32_401 : BitVec 32 := 1#32
  let v556 : BitVec 32 := Scalar.muli v555 c1_i32_401
  let v557 : BitVec 32 := Scalar.addi c0_i32_402 v556
  v557.toNat
def k0_dev14 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_437 : BitVec 32 := 4#32
  let v583 : BitVec 32 := Scalar.xori v2 c4_i32_437
  let c1_i32_445 : BitVec 32 := 1#32
  let v584 : BitVec 32 := Scalar.muli v583 c1_i32_445
  let v585 : BitVec 32 := Scalar.addi c0_i32_446 v584
  v585.toNat
def k0_dev15 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_481 : BitVec 32 := 1#32
  let v611 : BitVec 32 := Scalar.xori v2 c1_i32_481
  let c1_i32_489 : BitVec 32 := 1#32
  let v612 : BitVec 32 := Scalar.muli v611 c1_i32_489
  let v613 : BitVec 32 := Scalar.addi c0_i32_490 v612
  v613.toNat
def k0_dev16 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_524 : BitVec 32 := 4#32
  let v639 : BitVec 32 := Scalar.xori v2 c4_i32_524
  let c1_i32_532 : BitVec 32 := 1#32
  let v640 : BitVec 32 := Scalar.muli v639 c1_i32_532
  let v641 : BitVec 32 := Scalar.addi c0_i32_533 v640
  v641.toNat
def k0_dev17 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_568 : BitVec 32 := 1#32
  let v667 : BitVec 32 := Scalar.xori v2 c1_i32_568
  let c1_i32_576 : BitVec 32 := 1#32
  let v668 : BitVec 32 := Scalar.muli v667 c1_i32_576
  let v669 : BitVec 32 := Scalar.addi c0_i32_577 v668
  v669.toNat
def k0_dev18 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_612 : BitVec 32 := 3#32
  let v695 : BitVec 32 := Scalar.xori v2 c3_i32_612
  let c1_i32_620 : BitVec 32 := 1#32
  let v696 : BitVec 32 := Scalar.muli v695 c1_i32_620
  let v697 : BitVec 32 := Scalar.addi c0_i32_621 v696
  v697.toNat
def k0_dev19 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_656 : BitVec 32 := 4#32
  let v723 : BitVec 32 := Scalar.xori v2 c4_i32_656
  let c1_i32_664 : BitVec 32 := 1#32
  let v724 : BitVec 32 := Scalar.muli v723 c1_i32_664
  let v725 : BitVec 32 := Scalar.addi c0_i32_665 v724
  v725.toNat
def k0_dev20 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_700 : BitVec 32 := 1#32
  let v751 : BitVec 32 := Scalar.xori v2 c1_i32_700
  let c1_i32_708 : BitVec 32 := 1#32
  let v752 : BitVec 32 := Scalar.muli v751 c1_i32_708
  let v753 : BitVec 32 := Scalar.addi c0_i32_709 v752
  v753.toNat
def k0_dev21 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_744 : BitVec 32 := 3#32
  let v779 : BitVec 32 := Scalar.xori v2 c3_i32_744
  let c1_i32_752 : BitVec 32 := 1#32
  let v780 : BitVec 32 := Scalar.muli v779 c1_i32_752
  let v781 : BitVec 32 := Scalar.addi c0_i32_753 v780
  v781.toNat
-- ==== ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S1024x2048 : Shape := ⟨2, ![1024, 2048]⟩
abbrev S1x256x8192 : Shape := ⟨3, ![1, 256, 8192]⟩
abbrev S1x256x64x128 : Shape := ⟨4, ![1, 256, 64, 128]⟩
abbrev S1x256x2048 : Shape := ⟨3, ![1, 256, 2048]⟩
abbrev S1x256x16x128 : Shape := ⟨4, ![1, 256, 16, 128]⟩
abbrev S1x256x16x4x128 : Shape := ⟨5, ![1, 256, 16, 4, 128]⟩
abbrev S_ : Shape := ⟨0, ![]⟩
abbrev S1x64x256x1 : Shape := ⟨4, ![1, 64, 256, 1]⟩
abbrev S1x64x256x256 : Shape := ⟨4, ![1, 64, 256, 256]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S8192x1024, .f32⟩
  | .hbm, ⟨3, _⟩ => ⟨S1024x2048, .f32⟩
  | .hbm, ⟨4, _⟩ => ⟨S1024x2048, .f32⟩
  | .hbm, ⟨5, _⟩ => ⟨S1x256x8192, .f32⟩
  | .hbm, ⟨6, _⟩ => ⟨S1x256x64x128, .f32⟩
  | .hbm, ⟨7, _⟩ => ⟨S1x256x2048, .f32⟩
  | .hbm, ⟨8, _⟩ => ⟨S1x256x16x128, .f32⟩
  | .hbm, ⟨9, _⟩ => ⟨S1x256x2048, .f32⟩
  | .hbm, ⟨10, _⟩ => ⟨S1x256x16x128, .f32⟩
  | .hbm, ⟨11, _⟩ => ⟨S1x256x16x4x128, .f32⟩
  | .hbm, ⟨12, _⟩ => ⟨S1x256x64x128, .f32⟩
  | .hbm, ⟨13, _⟩ => ⟨S1x256x16x4x128, .f32⟩
  | .hbm, ⟨14, _⟩ => ⟨S1x256x64x128, .f32⟩
  | .hbm, ⟨15, _⟩ => ⟨S_, .f32⟩
  | .hbm, ⟨16, _⟩ => ⟨S1x256x64x128, .f32⟩
  | .hbm, ⟨17, _⟩ => ⟨S_, .f32⟩
  | .hbm, ⟨18, _⟩ => ⟨S1x64x256x1, .f32⟩
  | .hbm, ⟨19, _⟩ => ⟨S_, .f32⟩
  | .hbm, ⟨20, _⟩ => ⟨S1x64x256x1, .f32⟩
  | .hbm, ⟨21, _⟩ => ⟨S1x64x256x256, .f32⟩
  | .hbm, ⟨22, _⟩ => ⟨S_, .f32⟩
  | .hbm, ⟨23, _⟩ => ⟨S1x64x256x256, .f32⟩
  | .hbm, ⟨24, _⟩ => ⟨S1x64x256x256, .f32⟩
  | .hbm, ⟨25, _⟩ => ⟨S_, .f32⟩
  | .hbm, ⟨26, _⟩ => ⟨S1x64x256, .f32⟩
  | .hbm, ⟨27, _⟩ => ⟨S1x64x256x1, .f32⟩
  | .hbm, ⟨28, _⟩ => ⟨S1x64x256x1, .f32⟩
  | .hbm, ⟨29, _⟩ => ⟨S1x64x256x1, .f32⟩
  | .hbm, ⟨30, _⟩ => ⟨S1x64x256x1, .f32⟩
  | .hbm, ⟨31, _⟩ => ⟨S1x64x256x256, .f32⟩
  | .hbm, ⟨32, _⟩ => ⟨S1x64x256x256, .f32⟩
  | .hbm, ⟨33, _⟩ => ⟨S1x64x256x256, .f32⟩
  | .hbm, ⟨34, _⟩ => ⟨S1x64x256x1, .f32⟩
  | .hbm, ⟨35, _⟩ => ⟨S_, .f32⟩
  | .hbm, ⟨36, _⟩ => ⟨S1x64x256, .f32⟩
  | .hbm, ⟨37, _⟩ => ⟨S1x64x256x1, .f32⟩
  | .hbm, ⟨38, _⟩ => ⟨S1x64x256x1, .f32⟩
  | .hbm, ⟨39, _⟩ => ⟨S1x256x64x1, .f32⟩
  | .hbm, ⟨40, _⟩ => ⟨S1x256x64x128, .f32⟩
  | .hbm, ⟨41, _⟩ => ⟨S1x256x64x128, .f32⟩
  | .hbm, ⟨42, _⟩ => ⟨S1x64x128x256, .f32⟩
  | .hbm, ⟨43, _⟩ => ⟨S1x256x64x128, .f32⟩
  | .hbm, ⟨44, _⟩ => ⟨S1x256x64x128, .f32⟩
  | .hbm, ⟨45, _⟩ => ⟨S1x256x64x1, .f32⟩
  | .hbm, ⟨46, _⟩ => ⟨S1x256x64x128, .f32⟩
  | .hbm, ⟨47, _⟩ => ⟨S1x256x64x128, .f32⟩
  | .hbm, ⟨48, _⟩ => ⟨S1x256x8192, .f32⟩
  | .hbm, ⟨49, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Protocol.lean ====
/-
The exchange protocol of the kernel: eighteen exchanges, in the order in which every device starts them. Exchange
`e = 6 r + 3 rb + p` is round `r` of the all-reduce of piece `(rb, p)`: rows `128 rb …` and the columns of piece `p`.
This module fixes, for a symbolic exchange, the peer, the buffers, the semaphores, the value sent, the schedule of
the cells and the order of the debts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange cells' rounds, the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Exchanges -/

def rOf (e : Fin 18) : Fin 3 := ⟨e.val / 6, by omega⟩
def rbOf (e : Fin 18) : Fin 2 := ⟨e.val / 3 % 2, by omega⟩
def pOf (e : Fin 18) : Fin 3 := ⟨e.val % 3, by omega⟩
/-- The axis of an exchange: `(p + r) mod 3`. -/
def axOf (e : Fin 18) : Fin 3 := ⟨(e.val % 3 + e.val / 6) % 3, by omega⟩

/-- The neighbour of a device along an axis: its number with one, the low two or the third bit flipped. -/
def pe (a : Fin 3) (c : Dev nD) : Dev nD :=
  ⟨c.val ^^^ (match a with | 0 => 1 | 1 => 3 | 2 => 4), by revert c a; decide⟩
theorem pe_pe (a : Fin 3) (c : Dev nD) : pe a (pe a c) = c := by revert c a; decide
theorem pe_inj {a : Fin 3} {c d : Dev nD} : Iff (pe a c = pe a d) (c = d) := by revert c d a; decide
def peE (a : Fin 3) : Dev nD ≃ Dev nD := ⟨pe a, pe a, pe_pe a, pe_pe a⟩
/-- The partner of device `c` in exchange `e`. -/
abbrev peer (e : Fin 18) (c : Dev nD) : Dev nD := pe (axOf e) c

/-! ## Buffers -/

/-- The shape of piece `p`. -/
def sP : Fin 3 → Shape | 0 => S128x384 | 1 => S128x384 | 2 => S128x256

theorem inbS384 (rb : Fin 2) : ∀ a, (![rb.val * 128, 0] : Fin 2 → ℕ) a + S128x384.size a ≤ S256x384.size a := by revert rb; decide
theorem inbS256 (rb : Fin 2) : ∀ a, (![rb.val * 128, 0] : Fin 2 → ℕ) a + S128x256.size a ≤ S256x256.size a := by revert rb; decide
theorem inbR384 (rb : Fin 2) (r : Fin 3) : ∀ a, (![r.val, rb.val * 128, 0] : Fin 3 → ℕ) a + S1x128x384.size a ≤ S3x256x384.size a := by revert rb r; decide
theorem inbR256 (rb : Fin 2) (r : Fin 3) : ∀ a, (![r.val, rb.val * 128, 0] : Fin 3 → ℕ) a + S1x128x256.size a ≤ S3x256x256.size a := by revert rb r; decide

abbrev rcS384 (rb : Fin 2) : Rect S256x384 := Rect.unit (s := S256x384) ![rb.val * 128, 0] S128x384.size (inbS384 rb)
abbrev rcS256 (rb : Fin 2) : Rect S256x256 := Rect.unit (s := S256x256) ![rb.val * 128, 0] S128x256.size (inbS256 rb)
abbrev rcR384 (rb : Fin 2) (r : Fin 3) : Rect S3x256x384 := Rect.unit (s := S3x256x384) ![r.val, rb.val * 128, 0] S1x128x384.size (inbR384 rb r)
abbrev rcR256 (rb : Fin 2) (r : Fin 3) : Rect S3x256x256 := Rect.unit (s := S3x256x256) ![r.val, rb.val * 128, 0] S1x128x256.size (inbR256 rb r)

/-- The part of a send buffer that piece `(rb, p)` is sent from. -/
def sSlot (rb : Fin 2) : (p : Fin 3) → Memref sig .tc .vmem (sP p) .bf16
  | 0 => (Memref.whole cc0_scratch7).slice (rcS384 rb) (fun _ => rfl)
  | 1 => (Memref.whole cc0_scratch8).slice (rcS384 rb) (fun _ => rfl)
  | 2 => (Memref.whole cc0_scratch9).slice (rcS256 rb) (fun _ => rfl)

/-- The part of a receive buffer that piece `(rb, p)` of the partner lands in, in round `r`. -/
def rSlot (rb : Fin 2) (r : Fin 3) : (p : Fin 3) → Memref sig .tc .vmem (sP p) .bf16
  | 0 => ((Memref.whole cc0_scratch10).slice (rcR384 rb r) (fun _ => rfl)).squeeze S128x384 squeezes_S1x128x384_S128x384
  | 1 => ((Memref.whole cc0_scratch11).slice (rcR384 rb r) (fun _ => rfl)).squeeze S128x384 squeezes_S1x128x384_S128x384
  | 2 => ((Memref.whole cc0_scratch12).slice (rcR256 rb r) (fun _ => rfl)).squeeze S128x256 squeezes_S1x128x256_S128x256

/-! The result's buffer on the core by rows and pieces, and the rows of the result itself. -/
theorem inbO384 (rb : Fin 2) (p : Fin 2) : ∀ a, (![rb.val * 128, p.val * 384] : Fin 2 → ℕ) a + S128x384.size a ≤ S256x1024.size a := by revert rb p; decide
theorem inbO256 (rb : Fin 2) : ∀ a, (![rb.val * 128, 768] : Fin 2 → ℕ) a + S128x256.size a ≤ S256x1024.size a := by revert rb; decide
theorem inbO1024 (rb : Fin 2) : ∀ a, (![rb.val * 128, 0] : Fin 2 → ℕ) a + S128x1024.size a ≤ S256x1024.size a := by revert rb; decide
theorem inbH1024 (rb : Fin 2) : ∀ a, (![0, rb.val * 128, 0] : Fin 3 → ℕ) a + S1x128x1024.size a ≤ S1x256x1024.size a := by revert rb; decide
abbrev rcO384 (rb : Fin 2) (p : Fin 2) : Rect S256x1024 := Rect.unit (s := S256x1024) ![rb.val * 128, p.val * 384] S128x384.size (inbO384 rb p)
abbrev rcO256 (rb : Fin 2) : Rect S256x1024 := Rect.unit (s := S256x1024) ![rb.val * 128, 768] S128x256.size (inbO256 rb)
abbrev rcO1024 (rb : Fin 2) : Rect S256x1024 := Rect.unit (s := S256x1024) ![rb.val * 128, 0] S128x1024.size (inbO1024 rb)
abbrev rcH1024 (rb : Fin 2) : Rect S1x256x1024 := Rect.unit (s := S1x256x1024) ![0, rb.val * 128, 0] S1x128x1024.size (inbH1024 rb)

def oPiece (rb : Fin 2) : (p : Fin 3) → Memref sig .tc .vmem (sP p) .f32
  | 0 => (Memref.whole cc0_scratch5).slice (rcO384 rb 0) (fun _ => rfl)
  | 1 => (Memref.whole cc0_scratch5).slice (rcO384 rb 1) (fun _ => rfl)
  | 2 => (Memref.whole cc0_scratch5).slice (rcO256 rb) (fun _ => rfl)
def oRow (rb : Fin 2) : Memref sig .tc .vmem S128x1024 .f32 := (Memref.whole cc0_scratch5).slice (rcO1024 rb) (fun _ => rfl)
def hRow (rb : Fin 2) : Memref sig .tc .hbm S128x1024 .f32 :=
  ((Memref.whole main_v1).slice (rcH1024 rb) (fun _ => rfl)).squeeze S128x1024 squeezes_S1x128x1024_S128x1024

/-- The buffers of exchange `e`. -/
abbrev src (e : Fin 18) : Memref sig .tc .vmem (sP (pOf e)) .bf16 := sSlot (rbOf e) (pOf e)
abbrev dst (e : Fin 18) : Memref sig .tc .vmem (sP (pOf e)) .bf16 := rSlot (rbOf e) (rOf e) (pOf e)

/-- Two buffers whose elements the program never compares: owning a memref's elements at some contents. -/
abbrev some' (c : Dev nD) {s : Shape} {el : EltTy} (m : Memref sig .tc .vmem s el) : sProp 𝕄 :=
  iprop(∃ f, m.view.loc (c : Thread nD τ) ↦[m.view.set]{fullShare} f)

/-! ## Semaphores -/

/-- The barrier semaphore shared by the kernels of this collective. -/
abbrev barS : Sem sig := (SemArray.scalar (sig.barrier 0 rfl) : Sems sig S_).sem
def inS (i : Fin 7) : DmaSem sig := ⟨i.val, by have : sig.nDmaSem = 43 := rfl; omega⟩
def sendS (e : Fin 18) : DmaSem sig := ⟨7 + e.val / 3 % 2 * 9 + e.val % 3 * 3 + e.val / 6, by have : sig.nDmaSem = 43 := rfl; omega⟩
def recvS (e : Fin 18) : DmaSem sig := ⟨25 + e.val / 3 % 2 * 9 + e.val % 3 * 3 + e.val / 6, by have : sig.nDmaSem = 43 := rfl; omega⟩

abbrev barCell (c : Dev nD) : GSem nD τ sig := ((c : Thread nD τ), .reg barS)
abbrev sendCell (e : Fin 18) (c : Dev nD) : GSem nD τ sig := ((c : Thread nD τ), .dma (sendS e))
abbrev recvCell (e : Fin 18) (c : Dev nD) : GSem nD τ sig := ((c : Thread nD τ), .dma (recvS e))

theorem sendS_inj {e e' : Fin 18} (h : sendS e = sendS e') : e = e' := by
  revert e e'; decide +kernel
theorem recvS_inj {e e' : Fin 18} (h : recvS e = recvS e') : e = e' := by
  revert e e'; decide +kernel
theorem sendS_ne_recvS (e e' : Fin 18) : sendS e ≠ recvS e' := fun h => by
  have := congrArg Fin.val h; simp only [sendS, recvS] at this; omega

/-- The credit of a transfer of exchange `e`. -/
def NN (e : Fin 18) : ℕ := (dst e).view.dmaCredit
theorem NN_pos (e : Fin 18) : 0 < NN e := View.dmaCredit_pos _ (by revert e; decide +kernel)
theorem src_credit (e : Fin 18) : (src e).view.dmaCredit = NN e := by
  revert e; decide +kernel

/-! ## The values sent -/

variable (X : Fin 2 → (p : Fin 3) → Dev nD → FVec F (sP p) .bf16)

/-- What device `c` holds of piece `(rb, p)` after `r` rounds: its own sum so far plus its partner's. -/
def part (rb : Fin 2) (p : Fin 3) : ℕ → Dev nD → FVec F (sP p) .bf16
  | 0, c => X rb p c
  | r + 1, c => addf (part rb p r c) (part rb p r (pe ⟨(p.val + r) % 3, by omega⟩ c))

/-- What device `c` sends in exchange `e`. -/
abbrev sent (e : Fin 18) (c : Dev nD) : FVec F (sP (pOf e)) .bf16 := part X (rbOf e) (pOf e) (rOf e).val c

/-! ## The schedule -/

/-- The exchange whose receive semaphore is `q`, if any, and likewise for send. -/
def recvIx (q : DmaSem sig) : Option (Fin 18) := (List.finRange 18).find? fun e => recvS e = q
def sendIx (q : DmaSem sig) : Option (Fin 18) := (List.finRange 18).find? fun e => sendS e = q
theorem recvIx_recvS (e : Fin 18) : recvIx (recvS e) = some e := by revert e; decide +kernel
theorem sendIx_sendS (e : Fin 18) : sendIx (sendS e) = some e := by revert e; decide +kernel
theorem recvIx_sendS (e : Fin 18) : recvIx (sendS e) = none := by revert e; decide +kernel
theorem recvIx_inS (i : Fin 7) : recvIx (inS i) = none := by revert i; decide +kernel

/-- The exchanges along axis `a`. -/
def along (a : Fin 3) : Finset (Fin 18) := Finset.univ.filter fun e => axOf e = a

/-- What the neighbour along `a` hands over with its barrier signal: where this device's transfers along `a` land. -/
def barPay (c : Dev nD) (a : Fin 3) : sProp 𝕄 := bigSep (along a) fun e => some' (pe a c) (dst e)
def recvPay (e : Fin 18) (c : Dev nD) : sProp 𝕄 := owns (c : Thread nD τ) (dst e) fullShare (sent X e (peer e c))
def sendPay (e : Fin 18) (c : Dev nD) : sProp 𝕄 := some' c (src e)

instance barPay_storable (c : Dev nD) (a : Fin 3) : BI.Storable (upEmb : UEmb _ 𝕄) (barPay (F := F) c a) := by unfold barPay; infer_instance
instance recvPay_storable (e : Fin 18) (c : Dev nD) : BI.Storable (upEmb : UEmb _ 𝕄) (recvPay X e c) := by unfold recvPay; infer_instance
instance sendPay_storable (e : Fin 18) (c : Dev nD) : BI.Storable (upEmb : UEmb _ 𝕄) (sendPay (F := F) e c) := by unfold sendPay; infer_instance

/-- One round per cell: the barrier has one duty per axis, every transfer cell the duty 0. -/
def dutiesOf (sm : SemLoc sig) : Finset (Fin 3) := match sm with
  | .reg s => if s = barS then Finset.univ else ∅
  | .dma q => if (recvIx q).isSome || (sendIx q).isSome then {0} else ∅
def amountOf' (sm : SemLoc sig) : ℕ := match sm with
  | .reg _ => 1
  | .dma q => match recvIx q with
    | some e => NN e
    | none => match sendIx q with | some e => NN e | none => 1
def payloadOf (c : Dev nD) (sm : SemLoc sig) (a : Fin 3) : sProp 𝕄 := match sm with
  | .reg _ => barPay c a
  | .dma q => match recvIx q with
    | some e => recvPay X e c
    | none => match sendIx q with | some e => sendPay e c | none => iprop(emp)

def Rd : Rounds.Schedule (GSem nD τ sig) (Fin 3) 𝕄 where
  duties g r := if r = 0 then dutiesOf g.2 else ∅
  unitless _ := False
  amount g _ _ := amountOf' g.2
  payload g _ a := payloadOf X g.1.1 g.2 a
  amount_pos g _ _ _ := by
    unfold amountOf'
    (repeat' split) <;> first | exact Nat.one_pos | exact NN_pos _

instance Rd_payload_storable (g : GSem nD τ sig) (r : ℕ) (a : Fin 3) :
    BI.Storable (upEmb : UEmb _ 𝕄) ((Rd X).payload g r a) := by
  show BI.Storable upEmb (payloadOf X g.1.1 g.2 a)
  unfold payloadOf
  (repeat' split) <;> infer_instance

section Sched
variable (e : Fin 18) (c : Dev nD) (a : Fin 3)

theorem duties_bar : (Rd X).duties (barCell c) 0 = Finset.univ := by
  show (if (0:ℕ) = 0 then dutiesOf (.reg barS) else ∅) = _
  rw [if_pos rfl]; unfold dutiesOf; exact if_pos rfl
theorem duties_send : (Rd X).duties (sendCell e c) 0 = {0} := by
  show (if (0:ℕ) = 0 then dutiesOf (.dma (sendS e)) else ∅) = _
  rw [if_pos rfl]; unfold dutiesOf; simp only [sendIx_sendS, Option.isSome_some, Bool.or_true, if_true]
theorem duties_recv : (Rd X).duties (recvCell e c) 0 = {0} := by
  show (if (0:ℕ) = 0 then dutiesOf (.dma (recvS e)) else ∅) = _
  rw [if_pos rfl]; unfold dutiesOf; simp only [recvIx_recvS, Option.isSome_some, Bool.true_or, if_true]
theorem duties_later (g : GSem nD τ sig) : ∀ r, 1 ≤ r → (Rd X).duties g r = ∅ :=
  fun r hr => if_neg (by omega)

theorem amount_bar : (Rd X).amount (barCell c) 0 a = 1 := rfl
theorem amount_send : (Rd X).amount (sendCell e c) 0 a = NN e := by
  show amountOf' (.dma (sendS e)) = _; simp only [amountOf', recvIx_sendS, sendIx_sendS]
theorem amount_recv : (Rd X).amount (recvCell e c) 0 a = NN e := by
  show amountOf' (.dma (recvS e)) = _; simp only [amountOf', recvIx_recvS]

theorem expect_bar : (Rd X).expect (barCell c) 0 = 3 := by
  unfold Schedule.expect Schedule.amountOf
  rw [duties_bar, Finset.sum_congr rfl fun d _ => amount_bar X c d]; rfl
theorem expect_send : (Rd X).expect (sendCell e c) 0 = NN e := by
  unfold Schedule.expect Schedule.amountOf; rw [duties_send, Finset.sum_singleton, amount_send]
theorem expect_recv : (Rd X).expect (recvCell e c) 0 = NN e := by
  unfold Schedule.expect Schedule.amountOf; rw [duties_recv, Finset.sum_singleton, amount_recv]

theorem payload_bar : (Rd X).payload (barCell c) 0 a = barPay c a := rfl
theorem payload_send : (Rd X).payload (sendCell e c) 0 a = sendPay e c := by
  show payloadOf X c (.dma (sendS e)) a = _; simp only [payloadOf, recvIx_sendS, sendIx_sendS]
theorem payload_recv : (Rd X).payload (recvCell e c) 0 a = recvPay X e c := by
  show payloadOf X c (.dma (recvS e)) a = _; simp only [payloadOf, recvIx_recvS]

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((Rd X).duties (sendCell e c) 0 \ ∅) (fun d => (Rd X).payload (sendCell e c) 0 d) = sendPay e c := by
  rw [Finset.sdiff_empty, duties_send, bigSep_singleton, payload_send]
theorem rest_recv : bigSep ((Rd X).duties (recvCell e c) 0 \ ∅) (fun d => (Rd X).payload (recvCell e c) 0 d) = recvPay X e c := by
  rw [Finset.sdiff_empty, duties_recv, bigSep_singleton, payload_recv]

end Sched

/-! ## Debts and levels -/

/-- What device `c` owes once it has started the first `n` exchanges: the credit of every later one, at the partner. -/
def owed (c : Dev nD) (n : ℕ) : CellTallies nD τ sig Unit :=
  ∑ e ∈ Finset.univ.filter (fun e : Fin 18 => n ≤ e.val), tallyAt (recvCell e (peer e c)) () (NN e)

theorem owed_step (c : Dev nD) (e : Fin 18) :
    owed c e.val = owed c (e.val + 1) + tallyAt (recvCell e (peer e c)) () (NN e) := by
  have h : (Finset.univ.filter fun j : Fin 18 => e.val ≤ j.val)
      = insert e (Finset.univ.filter fun j : Fin 18 => e.val + 1 ≤ j.val) := by
    ext j; simp only [Finset.mem_filter, Finset.mem_univ, true_and, Finset.mem_insert, Fin.ext_iff]; omega
  unfold owed
  rw [h, Finset.sum_insert (by simp), add_comm]

theorem owed_end (c : Dev nD) : owed c 18 = 0 := by
  unfold owed
  rw [Finset.filter_false_of_mem (fun e _ => by have := e.isLt; omega), Finset.sum_empty]

/-- At launch it owes, besides, one unit to each neighbour's barrier. -/
def O₀ (c : Dev nD) : CellTallies nD τ sig Unit :=
  owed c 0 + tallyAt (barCell (pe 2 c)) () 1 + tallyAt (barCell (pe 1 c)) () 1 + tallyAt (barCell (pe 0 c)) () 1

def L (g : GSem nD τ sig) : Finset Unit := if g.1.2 = .tc then {()} else ∅
/-- Barriers at 1, the receive cell of exchange `e` at `e + 2`, everything else at 0. -/
def lvOf (sm : SemLoc sig) : ℕ := match sm with
  | .reg _ => 1
  | .dma q => match recvIx q with | some e => e.val + 2 | none => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lvOf_recv (e : Fin 18) : lvOf (.dma (recvS e)) = e.val + 2 := by simp only [lvOf, recvIx_recvS]
theorem lvOf_send (e : Fin 18) : lvOf (.dma (sendS e)) = 0 := by simp only [lvOf, recvIx_sendS]
theorem lvOf_in (i : Fin 7) : lvOf (.dma (inS i)) = 0 := by simp only [lvOf, recvIx_inS]

theorem owed_pos {c : Dev nD} {n : ℕ} {g : GSem nD τ sig} {u : Unit} (h : 0 < owed c n g u) :
    ∃ e : Fin 18, n ≤ e.val ∧ g = recvCell e (peer e c) := by
  unfold owed at h
  rw [Finset.sum_apply, Finsupp.finset_sum_apply] at h
  obtain ⟨e, he, hpos⟩ := Finset.exists_ne_zero_of_sum_ne_zero (Nat.pos_iff_ne_zero.mp h)
  rw [tallyAt_apply] at hpos
  refine ⟨e, (Finset.mem_filter.mp he).2, ?_⟩
  by_contra hne
  exact hpos (if_neg fun h' => hne h'.1)

/-- A wait on a cell of a level below every debt's is allowed. -/
theorem mayWait (c : Dev nD) (sm : SemLoc sig) (n : ℕ) (h : lvOf sm < n + 2) :
    (levAts L lv : sProp 𝕄) ⊢ MayWait (c : Thread nD τ) sm () (owed c n) :=
  MayOwe.of_cut (L := L) (lev := lv) (n + 1)
    (fun p hp => by rw [Finset.mem_singleton.mp hp, L_tc]; exact Finset.mem_singleton_self _)
    (fun g u hg => by obtain ⟨e, -, rfl⟩ := owed_pos hg; rw [L_tc]; exact Finset.mem_singleton_self _)
    (fun p hp => by rw [Finset.mem_singleton.mp hp]; show lvOf sm ≤ n + 1; omega)
    (fun g u hg => by
      obtain ⟨e, he, rfl⟩ := owed_pos hg
      show n + 1 < lvOf (.dma (recvS e)); rw [lvOf_recv]; omega)

end Cert.Exchange

end
-- ==== Proof.Steps.lean ====
/-
The steps of a device's program, each once for every exchange and every buffer: start a transfer, wait for its
send and for its arrival, load from and store to the rows of a buffer, copy locally and wait for the copy.
-/
module

public import proofs.«01_k».proof.Proof.Protocol
public import Idealize.ShloMosaic.Lib.Transfers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ
abbrev 𝒱₀ : Variants := Variants.none
/-- The weakest precondition of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Fin 2 → (p : Fin 3) → Dev nD → FVec F (sP p) .bf16)

/-! ## What a device holds for an exchange -/

/-- The cells of a device: its barrier, its eighteen send cells, its eighteen receive cells. -/
abbrev CI : Type := Unit ⊕ (Fin 18 ⊕ Fin 18)
abbrev ciB : CI := Sum.inl ()
abbrev ciS (e : Fin 18) : CI := Sum.inr (Sum.inl e)
abbrev ciR (e : Fin 18) : CI := Sum.inr (Sum.inr e)
def smOf : CI → SemLoc sig
  | .inl _ => .reg barS
  | .inr (.inl e) => .dma (sendS e)
  | .inr (.inr e) => .dma (recvS e)
abbrev kcell (ck : Dev nD × CI) : GSem nD τ sig := ((ck.1 : Thread nD τ), smOf ck.2)

variable (K : Dev nD × CI → ℕ)

/-- The cell records a device uses in exchange `e`. -/
def recs (e : Fin 18) (c : Dev nD) : sProp 𝕄 :=
  iprop(cellInv ER (Rd X) (K (c, ciS e)) (sendCell e c) ∗ reached ER (sendCell e c) 0
    ∗ cellInv ER (Rd X) (K (peer e c, ciR e)) (recvCell e (peer e c)) ∗ reached ER (recvCell e (peer e c)) 0
    ∗ cellInv ER (Rd X) (K (c, ciR e)) (recvCell e c))
instance (e : Fin 18) (c : Dev nD) : BI.Persistent (recs X K e c) := by unfold recs; infer_instance

/-- Before the barrier: the tokens to pay for the transfer out, the positions on the two own cells, the credit of the transfer in. -/
def Early (e : Fin 18) (c : Dev nD) : sProp 𝕄 :=
  iprop(recs X K e c ∗ dutyTok ER (sendCell e c) 0 0 ∗ dutyTok ER (recvCell e (peer e c)) 0 0
    ∗ atPos ER (sendCell e c) 0 ∅ 0 ∗ atPos ER (recvCell e c) 0 ∅ 0 ∗ cred (tallyAt (recvCell e c) () (NN e)))
/-- Before it starts: besides, the partner's buffer. -/
def Idle (e : Fin 18) (c : Dev nD) : sProp 𝕄 := iprop(Early X K e c ∗ some' (peer e c) (dst e))
/-- Started. -/
def Sent (e : Fin 18) (c : Dev nD) : sProp 𝕄 :=
  iprop(recs X K e c ∗ cred (tallyAt (sendCell e c) () (NN e)) ∗ atPos ER (sendCell e c) 0 ∅ 0
    ∗ atPos ER (recvCell e c) 0 ∅ 0 ∗ cred (tallyAt (recvCell e c) () (NN e)))
/-- Out: the send cell is closed. -/
def Half (e : Fin 18) (c : Dev nD) : sProp 𝕄 :=
  iprop(recs X K e c ∗ semVal (sendCell e c) 0
    ∗ atPos ER (recvCell e c) 0 ∅ 0 ∗ cred (tallyAt (recvCell e c) () (NN e)))
/-- Done: both cells closed, the partner's value arrived. -/
abbrev Done (e : Fin 18) (c : Dev nD) : sProp 𝕄 :=
  iprop(semVal (sendCell e c) 0 ∗ semVal (recvCell e c) 0
    ∗ owns (c : Thread nD τ) (dst e) fullShare (sent X e (peer e c)))

/-- A device's debts with `n` exchanges started, whatever it has waited for. -/
def owesN (c : Dev nD) (n : ℕ) : sProp 𝕄 := iprop(∃ W, owes (c : Thread nD τ) (owed c n) W)

/-! ## Transfers -/

theorem send_step (e : Fin 18) (c d : Dev nD) (hd : d = peer e c)
    {hsc : (dst e : Memref sig (Dev.tc d : Thread nD τ).2.kind .vmem (sP (pOf e)) .bf16).view.ref.isScScratch = false}
    {hsrc : (src e).view.WordExact} {hdst : (dst e).view.WordExact}
    {hsem : DmaTarget.Typed .vmem (.dma (recvS e)) (.remote (Dev.tc d : Thread nD τ) (dst e) (.dma (sendS e)) hsc)}
    {α : Type} {Q : α → sProp 𝕄} {k : PUnit → Prog (TpuEff nD τ sig (Elt F) Λ₀ .tc) α} :
    iprop(Idle X K e c ∗ owns (c : Thread nD τ) (src e) fullShare (sent X e c) ∗ owesN c e.val)
      ⊢ iprop((iprop(Sent X K e c ∗ owesN c (e.val + 1)) -∗ wpc c (k ⟨⟩) Q)
          -∗ wpc c (.op (.enqueueDma (src e) (.remote (Dev.tc d : Thread nD τ) (dst e) (.dma (sendS e)) hsc) (.dma (recvS e)) hsrc hdst hsem) k) Q) := by
  subst hd
  unfold Idle Early Sent owesN owns
  iintro ⟨⟨⟨#Hrecs, HtS, HtR, HatS, HatR, HcR⟩, ⟨%fd, Hd⟩⟩, ⟨%fs, %hfs, Hs⟩, ⟨%W, HO⟩⟩ Hk
  ihave Hrecs' := (show (recs X K e c : sProp 𝕄) ⊢ _ from (by unfold recs; exact BI.Entails.refl _)) $$ Hrecs
  icases Hrecs' with ⟨#HIs, #Hrs, #HIr, #Hrr, -⟩
  iapply (Rounds.wp_send_pointsTo 𝒱₀ ER (Rd X) (c : Thread nD τ) none (κ₁ := K (c, ciS e)) (κ₂ := K (peer e c, ciR e))
    (r₁ := 0) (r₂ := 0) (d₁ := 0) (d₂ := 0) (fs := fs) (fd := fd)
    (by rw [duties_send]; exact Finset.mem_singleton_self _) (by rw [duties_recv]; exact Finset.mem_singleton_self _)
    () () (NN e) rfl (amount_send X e c 0) (amount_recv X e (peer e c) 0) (owed c (e.val + 1)) (owed_step c e) (W := W)
    (by rw [payload_send]; unfold sendPay some'; iintro H; iexists _; iexact H)
    (by
      rw [payload_recv]; unfold recvPay owns peer; rw [pe_pe]
      iintro H; iexists _
      isplitr [H]; rotate_left; · iexact H
      ipureintro; rw [View.read_write_univ, hfs])) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨HcS, HO⟩
  iapply Hk
  isplitr [HO]
  · isplitr; · iexact Hrecs
    isplitl [HcS]; · iexact HcS
    isplitl [HatS]; · iexact HatS
    isplitl [HatR]; · iexact HatR
    iexact HcR
  · iexists _; iexact HO

theorem wait_send_step (e : Fin 18) (c : Dev nD) (n : ℕ)
    {sw : Shape} {srcw : Memref sig .tc .vmem sw .bf16}
    {hsrc : srcw.view.WordExact} {hdst : (src e).view.WordExact}
    {α : Type} {Q : α → sProp 𝕄} {k : PUnit → Prog (TpuEff nD τ sig (Elt F) Λ₀ .tc) α} :
    iprop(levAts L lv ∗ Sent X K e c ∗ owesN c n)
      ⊢ iprop((iprop(Half X K e c ∗ some' c (src e) ∗ owesN c n) -∗ wpc c (k ⟨⟩) Q)
          -∗ wpc c (.op (.waitDma2 (sendS e) srcw (src e) hsrc hdst) k) Q) := by
  unfold Sent Half owesN
  iintro ⟨#Hlev, ⟨#Hrecs, HcS, HatS, HatR, HcR⟩, ⟨%W, HO⟩⟩ Hk
  ihave Hrecs' := (show (recs X K e c : sProp 𝕄) ⊢ _ from (by unfold recs; exact BI.Entails.refl _)) $$ Hrecs
  icases Hrecs' with ⟨#HIs, -, -⟩
  iapply (Rounds.wp_wait_rest_token 𝒱₀ ER (Rd X) (c : Thread nD τ) none (κ := K (c, ciS e))
      (wpE_waitDma2_eq 𝒱₀ (c : Thread nD τ) none Set.univ) (Set.mem_univ _) () (O := owed c n) (W := W) (R := 0) (m := 0) (T := ∅)
      (by rw [Nat.zero_add, expect_send]; exact src_credit e)) $$ [HcS HO HatS]
  · isplitr; · iexact HIs
    isplitl [HcS]; · rw [src_credit]; iexact HcS
    isplitl [HO]; · iexact HO
    isplitr
    · iapply (mayWait c (.dma (sendS e)) n (by rw [lvOf_send]; omega)); iexact Hlev
    iexact HatS
  iintro ⟨HO, HatS, -, Hpay⟩
  ihave Hp := (Entails.of_eq (rest_send X e c)) $$ Hpay
  imod (Rounds.cell_close ER (Rd X) (Set.mem_univ (K (c, ciS e))) (fun h => h) (R := 0 + 1) (duties_later X (sendCell e c))) $$ [HatS] with Hz
  · isplitr; · iexact HIs
    iexact HatS
  iapply Hk
  isplitr [HO Hp]
  · isplitr; · iexact Hrecs
    isplitl [Hz]; · iexact Hz
    isplitl [HatR]; · iexact HatR
    iexact HcR
  isplitl [Hp]; · unfold sendPay; iexact Hp
  iexists _; iexact HO

theorem wait_recv_step (e : Fin 18) (c : Dev nD) (n : ℕ) (hn : e.val < n)
    {sw : Shape} {srcw : Memref sig .tc .vmem sw .bf16}
    {hsrc : srcw.view.WordExact} {hdst : (dst e).view.WordExact}
    {α : Type} {Q : α → sProp 𝕄} {k : PUnit → Prog (TpuEff nD τ sig (Elt F) Λ₀ .tc) α} :
    iprop(levAts L lv ∗ Half X K e c ∗ owesN c n)
      ⊢ iprop((iprop(Done X e c ∗ owesN c n) -∗ wpc c (k ⟨⟩) Q)
          -∗ wpc c (.op (.waitDma2 (recvS e) srcw (dst e) hsrc hdst) k) Q) := by
  unfold Half owesN
  iintro ⟨#Hlev, ⟨#Hrecs, Hz, HatR, HcR⟩, ⟨%W, HO⟩⟩ Hk
  ihave Hrecs' := (show (recs X K e c : sProp 𝕄) ⊢ _ from (by unfold recs; exact BI.Entails.refl _)) $$ Hrecs
  icases Hrecs' with ⟨-, -, -, -, #HIr⟩
  iapply (Rounds.wp_wait_rest_token 𝒱₀ ER (Rd X) (c : Thread nD τ) none (κ := K (c, ciR e))
      (wpE_waitDma2_eq 𝒱₀ (c : Thread nD τ) none Set.univ) (Set.mem_univ _) () (O := owed c n) (W := W) (R := 0) (m := 0) (T := ∅)
      (by rw [Nat.zero_add, expect_recv]; rfl)) $$ [HcR HO HatR]
  · isplitr; · iexact HIr
    isplitl [HcR]; · iexact HcR
    isplitl [HO]; · iexact HO
    isplitr
    · iapply (mayWait c (.dma (recvS e)) n (by rw [lvOf_recv]; omega)); iexact Hlev
    iexact HatR
  iintro ⟨HO, HatR, -, Hpay⟩
  ihave Hp := (Entails.of_eq (rest_recv X e c)) $$ Hpay
  imod (Rounds.cell_close ER (Rd X) (Set.mem_univ (K (c, ciR e))) (fun h => h) (R := 0 + 1) (duties_later X (recvCell e c))) $$ [HatR] with Hzr
  · isplitr; · iexact HIr
    iexact HatR
  iapply Hk
  isplitr [HO]
  · isplitl [Hz]; · iexact Hz
    isplitl [Hzr]; · iexact Hzr
    unfold recvPay; iexact Hp
  iexists _; iexact HO

/-! ## Loads and stores -/

theorem load_owned (c : Dev nD) {s : Shape} {el : EltTy} (m : Memref sig .tc .vmem s el) (r : Rect s) (hr : ∀ a, r.stride a = 1)
    {hl : m.view.LoadsAt r.toLoadRect} {q : PosShare TreeShare} (Z : r.shape.Idx → Elt F el)
    {α : Type} {Q : α → sProp 𝕄} {k : (r.shape.Idx → Elt F el) → Prog (TpuEff nD τ sig (Elt F) Λ₀ .tc) α} :
    owns (c : Thread nD τ) (m.slice r hr) q Z
      ⊢ iprop((owns (c : Thread nD τ) (m.slice r hr) q Z -∗ wpc c (k Z) Q) -∗ wpc c (.op (.load m r.toLoadRect hl) k) Q) := by
  unfold owns
  iintro ⟨%f, %hf, H⟩ Hk
  iapply (wp_load_rect 𝒱₀ (c : Thread nD τ) none Set.univ (m := m) (r := r) (S := (m.access r).set) subset_rfl) $$ H
  iintro H
  rw [show (m.access r).read (Elt F) f = Z from hf]
  iapply Hk
  iexists f
  isplitr; · ipureintro; exact hf
  iexact H

theorem load_any (c : Dev nD) {s : Shape} {el : EltTy} (m : Memref sig .tc .vmem s el) (r : Rect s) (hr : ∀ a, r.stride a = 1)
    {hl : m.view.LoadsAt r.toLoadRect}
    {α : Type} {Q : α → sProp 𝕄} {k : (r.shape.Idx → Elt F el) → Prog (TpuEff nD τ sig (Elt F) Λ₀ .tc) α} :
    (some' c (m.slice r hr) : sProp 𝕄)
      ⊢ iprop((∀ Z, some' c (m.slice r hr) -∗ wpc c (k Z) Q) -∗ wpc c (.op (.load m r.toLoadRect hl) k) Q) := by
  unfold some'
  iintro ⟨%f, H⟩ Hk
  iapply (wp_load_rect 𝒱₀ (c : Thread nD τ) none Set.univ (m := m) (r := r) (S := (m.access r).set) subset_rfl) $$ H
  iintro H
  iapply Hk
  iexists f; iexact H

theorem store_any (c : Dev nD) {s : Shape} {el : EltTy} (m : Memref sig .tc .vmem s el) (r : Rect s) (hr : ∀ a, r.stride a = 1)
    {w : r.shape.Idx → Elt F el} (Z : r.shape.Idx → Elt F el) (hZ : w = Z) {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (some' c (m.slice r hr) : sProp 𝕄)
      ⊢ iprop((owns (c : Thread nD τ) (m.slice r hr) fullShare Z -∗ wpc c (k ⟨⟩) Q) -∗ wpc c (.op (.store m r w Finset.univ hx hm) k) Q) := by
  subst hZ
  unfold some' owns
  iintro ⟨%f, H⟩ Hk
  iapply (wp_store 𝒱₀ (c : Thread nD τ) none Set.univ (m := m) (r := r) (Mk := Finset.univ) (S := (m.access r).set) subset_rfl) $$ H
  iintro H
  iapply Hk
  iexists _
  isplitr [H]; rotate_left; · iexact H
  ipureintro; exact View.read_write_univ _ _

/-- A load through the rectangle of a buffer known by its squeezed rows. -/
theorem load_squeezed (c : Dev nD) {s s' : Shape} {el : EltTy} (m : Memref sig .tc .vmem s el) (r : Rect s) (hr : ∀ a, r.stride a = 1)
    (h : r.shape.Squeezes s')
    {hl : m.view.LoadsAt r.toLoadRect} {q : PosShare TreeShare} (Z : s'.Idx → Elt F el)
    {α : Type} {Q : α → sProp 𝕄} {k : (r.shape.Idx → Elt F el) → Prog (TpuEff nD τ sig (Elt F) Λ₀ .tc) α} :
    owns (c : Thread nD τ) ((m.slice r hr).squeeze s' h) q Z
      ⊢ iprop((∀ Y, ⌜shapeCast s' Y h.numel_eq = Z⌝ -∗ owns (c : Thread nD τ) ((m.slice r hr).squeeze s' h) q Z -∗ wpc c (k Y) Q)
          -∗ wpc c (.op (.load m r.toLoadRect hl) k) Q) := by
  unfold owns
  iintro ⟨%f, %hf, H⟩ Hk
  iapply (wp_load_rect 𝒱₀ (c : Thread nD τ) none Set.univ (m := m) (r := r) (S := ((m.slice r hr).squeeze s' h).view.set)
    (View.set_reshape _ _).superset) $$ H
  iintro H
  iapply Hk $$ %((m.access r).read (Elt F) f) [] [H]
  · ipureintro; exact hf
  iexists f
  isplitr; · ipureintro; exact hf
  iexact H

/-- A load of a part of a buffer owned whole. -/
theorem load_part (c : Dev nD) {s : Shape} {el : EltTy} (m : Memref sig .tc .vmem s el) (r : Rect s)
    {hl : m.view.LoadsAt r.toLoadRect} {q : PosShare TreeShare} (Z : s.Idx → Elt F el)
    {α : Type} {Q : α → sProp 𝕄} {k : (r.shape.Idx → Elt F el) → Prog (TpuEff nD τ sig (Elt F) Λ₀ .tc) α} :
    owns (c : Thread nD τ) m q Z
      ⊢ iprop((owns (c : Thread nD τ) m q Z -∗ wpc c (k fun j => Z (r.emb j)) Q) -∗ wpc c (.op (.load m r.toLoadRect hl) k) Q) := by
  unfold owns
  iintro ⟨%f, %hf, H⟩ Hk
  iapply (wp_load_rect 𝒱₀ (c : Thread nD τ) none Set.univ (m := m) (r := r) (S := m.view.set) (View.set_slice_subset _ _)) $$ H
  iintro H
  rw [show (m.access r).read (Elt F) f = fun j => Z (r.emb j) from by rw [← hf]; rfl]
  iapply Hk
  iexists f
  isplitr; · ipureintro; exact hf
  iexact H

/-- What an arrived value is put together with: load it, load the place of the result, store the result there. -/
theorem merge_step (c : Dev nD) {s s' t : Shape} {el el' : EltTy} (m : Memref sig .tc .vmem s el) (r : Rect s) (hr : ∀ a, r.stride a = 1)
    (h : r.shape.Squeezes s') (m' : Memref sig .tc .vmem t el') (r' : Rect t) (hr' : ∀ a, r'.stride a = 1)
    {hl : m.view.LoadsAt r.toLoadRect} {hl' : m'.view.LoadsAt r'.toLoadRect} (Y : s'.Idx → Elt F el) (Z : r'.shape.Idx → Elt F el')
    {w : (r.shape.Idx → Elt F el) → r'.shape.Idx → Elt F el'} (hw : ∀ y, shapeCast s' y h.numel_eq = Y → w y = Z)
    {hx : (m'.access r').Stores Finset.univ} {hm : (Finset.univ : Finset r'.shape.Idx) = Finset.univ ∨ ∀ a, r'.stride a = 1}
    {α : Type} {Q : α → sProp 𝕄} {k : (r.shape.Idx → Elt F el) → PUnit → Prog (TpuEff nD τ sig (Elt F) Λ₀ .tc) α} :
    iprop(owns (c : Thread nD τ) ((m.slice r hr).squeeze s' h) fullShare Y ∗ some' c (m'.slice r' hr'))
      ⊢ iprop((∀ y, ⌜shapeCast s' y h.numel_eq = Y⌝ -∗ owns (c : Thread nD τ) ((m.slice r hr).squeeze s' h) fullShare Y
            -∗ owns (c : Thread nD τ) (m'.slice r' hr') fullShare Z -∗ wpc c (k y ⟨⟩) Q)
          -∗ wpc c (.op (.load m r.toLoadRect hl) fun y => .op (.load m' r'.toLoadRect hl') fun _ =>
              .op (.store m' r' (w y) Finset.univ hx hm) (k y)) Q) := by
  iintro ⟨Hr, Hs⟩ Hk
  iapply (load_squeezed c m r hr h Y) $$ Hr
  iintro %y %hy Hr
  iapply (load_any c m' r' hr') $$ Hs
  iintro %_ Hs
  iapply (store_any c m' r' hr' Z (hw y hy)) $$ Hs
  iintro Hs
  iapply Hk $$ %y %hy Hr Hs

/-! ## Local copies -/

/-- A local copy in flight on semaphore `q`: at the wait it gives the source back and the destination holding `Z`. -/
def Flying (c : Dev nD) (q : DmaSem sig) {sp sp' : Space} {s : Shape} {el : EltTy} (a : Memref sig .tc sp s el) (b : Memref sig .tc sp' s el)
    (p : PosShare TreeShare) (Z : s.Idx → Elt F el) : sProp 𝕄 :=
  Flight countersEmb (c : Thread nD τ) (.dma q) () b.view.dmaCredit iprop(owns (c : Thread nD τ) b fullShare Z ∗ owns (c : Thread nD τ) a p Z)

theorem copy_step (c : Dev nD) {sp sp' : Space} {s : Shape} {el : EltTy} (a : Memref sig .tc sp s el) (b : Memref sig .tc sp' s el)
    (q : DmaSem sig) (hs : 0 < s.numel)
    {hsrc : a.view.WordExact} {hdst : b.view.WordExact} {hsem : DmaTarget.Typed (nD := nD) sp (.dma q) (DmaTarget.here b : DmaTarget nD τ sig (.tc : Proc τ) sp' s el)}
    {p : PosShare TreeShare} {Z : s.Idx → Elt F el}
    {α : Type} {Q : α → sProp 𝕄} {k : PUnit → Prog (TpuEff nD τ sig (Elt F) Λ₀ .tc) α} :
    iprop(owns (c : Thread nD τ) a p Z ∗ (∃ f, b.view.loc (c : Thread nD τ) ↦[b.view.set]{fullShare} f) ∗ semVal ((c : Thread nD τ), .dma q) 0)
      ⊢ iprop((Flying c q a b p Z -∗ wpc c (k ⟨⟩) Q) -∗ wpc c (.op (.enqueueDma a (.here b) (.dma q) hsrc hdst hsem) k) Q) := by
  unfold Flying owns
  iintro ⟨⟨%fs, %hfs, Hs⟩, ⟨%fd, Hd⟩, Hv⟩ Hk
  iapply (wp_dmaLocal countersEmb 𝒱₀ (c : Thread nD τ) none () b.view.dmaCredit rfl (View.dmaCredit_pos _ hs) subset_rfl) $$ [Hs Hd Hv]
  · isplitl [Hs]; · iexact Hs
    isplitl [Hd]; · iexact Hd
    iexact Hv
  iintro Hf
  iapply Hk
  iapply (Flight_mono countersEmb (c : Thread nD τ) (by
    iintro ⟨Hb, Ha⟩
    isplitl [Hb]
    · iexists _
      isplitr [Hb]; rotate_left; · iexact Hb
      ipureintro; rw [View.read_write_univ]; exact hfs
    · iexists fs
      isplitr; · ipureintro; exact hfs
      iexact Ha)) $$ Hf

theorem copy_wait (c : Dev nD) {sp sp' spw : Space} {s sw : Shape} {el ew : EltTy} (a : Memref sig .tc sp s el) (b : Memref sig .tc sp' s el)
    (q : DmaSem sig) (n : ℕ) (hq : lvOf (.dma q) < n + 2)
    {srcw : Memref sig .tc spw sw ew} {hsrc : srcw.view.WordExact} {hdst : b.view.WordExact}
    {p : PosShare TreeShare} {Z : s.Idx → Elt F el}
    {α : Type} {Q : α → sProp 𝕄} {k : PUnit → Prog (TpuEff nD τ sig (Elt F) Λ₀ .tc) α} :
    iprop(levAts L lv ∗ Flying c q a b p Z ∗ owesN c n)
      ⊢ iprop((iprop(owns (c : Thread nD τ) b fullShare Z ∗ owns (c : Thread nD τ) a p Z ∗ semVal ((c : Thread nD τ), .dma q) 0 ∗ owesN c n) -∗ wpc c (k ⟨⟩) Q)
          -∗ wpc c (.op (.waitDma2 q srcw b hsrc hdst) k) Q) := by
  unfold Flying owesN
  iintro ⟨#Hlev, Hf, ⟨%W, HO⟩⟩ Hk
  iapply (wp_waitLocalO countersEmb 𝒱₀ (c : Thread nD τ) none () (O := owed c n) (W := W) rfl) $$ [Hf HO]
  · isplitl [Hf]; · iexact Hf
    isplitl [HO]; · iexact HO
    iapply (mayWait c (.dma q) n hq); iexact Hlev
  iintro ⟨⟨Hb, Ha⟩, Hv, HO⟩
  iapply Hk
  isplitl [Hb]; · iexact Hb
  isplitl [Ha]; · iexact Ha
  isplitl [Hv]; · iexact Hv
  iexists _; iexact HO

end Cert.Exchange

end
-- ==== Proof.Pieces.lean ====
/-
The parts of a device's program at the device's own buffers, and what the program computes from its inputs.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- A part of the program before its buffers are given. -/
abbrev OverBufs (R : Type 1) : Type 1 :=
  (arg0 : Memref sig .tc .hbm S1x256x1024 .f32) →
    (harg0 : arg0.IsWhole) →
    (arg1 : Memref sig .tc .hbm S1024x1024 .f32) →
    (harg1 : arg1.IsWhole) →
    (arg2 : Memref sig .tc .hbm S1024x2048 .f32) →
    (harg2 : arg2.IsWhole) →
    (arg3 : Memref sig .tc .hbm S1024x2048 .f32) →
    (harg3 : arg3.IsWhole) →
    (arg4 : Memref sig .tc .hbm S1024x1024 .f32) →
    (harg4 : arg4.IsWhole) →
    (arg5 : Memref sig .tc .hbm S1x256x1024 .f32) →
    (harg5 : arg5.IsWhole) →
    (arg6 : Memref sig .tc .vmem S256x1024 .f32) →
    (harg6 : arg6.IsWhole) →
    (arg7 : Memref sig .tc .vmem S1024x1024 .f32) →
    (harg7 : arg7.IsWhole) →
    (arg8 : Memref sig .tc .vmem S1024x256 .f32) →
    (harg8 : arg8.IsWhole) →
    (arg9 : Memref sig .tc .vmem S1024x256 .f32) →
    (harg9 : arg9.IsWhole) →
    (arg10 : Memref sig .tc .vmem S1024x1024 .f32) →
    (harg10 : arg10.IsWhole) →
    (arg11 : Memref sig .tc .vmem S256x1024 .f32) →
    (harg11 : arg11.IsWhole) →
    (arg12 : DmaSems sig S7) →
    (arg13 : Memref sig .tc .vmem S256x384 .bf16) →
    (harg13 : arg13.IsWhole) →
    (arg14 : Memref sig .tc .vmem S256x384 .bf16) →
    (harg14 : arg14.IsWhole) →
    (arg15 : Memref sig .tc .vmem S256x256 .bf16) →
    (harg15 : arg15.IsWhole) →
    (arg16 : Memref sig .tc .vmem S3x256x384 .bf16) →
    (harg16 : arg16.IsWhole) →
    (arg17 : Memref sig .tc .vmem S3x256x384 .bf16) →
    (harg17 : arg17.IsWhole) →
    (arg18 : Memref sig .tc .vmem S3x256x256 .bf16) →
    (harg18 : arg18.IsWhole) →
    (arg19 : DmaSems sig S2x3x3) →
    (arg20 : DmaSems sig S2x3x3) → R

/-- A part at the kernel's buffers. -/
abbrev atBufs {R : Type 1} (f : OverBufs R) : R :=
  f (Memref.whole main_arg0) (Memref.isWhole_whole _) (Memref.whole main_arg1) (Memref.isWhole_whole _) (Memref.whole main_arg3) (Memref.isWhole_whole _) (Memref.whole main_arg4) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14

/-! ## What a device computes -/

/-- What a device reads of its arguments. -/
structure Inp (F : FTy → Type) where
  x : Vec F S256x1024 .f32
  wq : Vec F S1024x1024 .f32
  wk : Vec F S1024x256 .f32
  wv : Vec F S1024x256 .f32
  wo : Vec F S1024x1024 .f32

/-- The columns of the output projection that piece `p` is made with. -/
def woRect384 (p : Fin 2) : Rect S1024x1024 := Rect.unit (s := S1024x1024) ![0, p.val * 384] S1024x384.size (by revert p; decide)
def woRect256 : Rect S1024x1024 := Rect.unit (s := S1024x1024) ![0, 768] S1024x256.size (by decide)

namespace Inp
variable (i : Inp F)

def v40 : FVec F S256x1024 .bf16 := k0_pay1 i.x
def v44 : FVec F S256x256 .bf16 := k0_pay2 i.x i.wk
def v48 : FVec F S256x256 .bf16 := k0_pay3 i.x i.wv
def v52 : FVec F S1024x1024 .bf16 := k0_pay4 i.wq
def v55 : FVec F S128x1024 .bf16 := k0_pay5 i.x
def z : FVec F S128x1024 .f32 := constant S128x1024 .f32 0x00000000#32
def v56 : FVec F S128x1024 .f32 := k0_pay6 i.v52 i.v55 z
def v74 : FVec F S128x128 .f32 := k0_pay7 i.v44 i.v48 i.v52 i.v55 z
def v92 : FVec F S128x128 .f32 := k0_pay8 i.v44 i.v48 i.v52 i.v55 z
def v96 : FVec F S256x128 .bf16 := k0_pay9 i.v48
def v99 : FVec F S128x256 .f32 := k0_pay10 i.v44 i.v52 i.v55 z
def v102 : FVec F S128x256 .f32 := k0_pay11 i.v44 i.v52 i.v55 z
def v110 : FVec F S128x128 .f32 := k0_pay12 i.v96 i.v99 i.v102
def v128 : FVec F S128x128 .f32 := k0_pay13 i.v44 i.v48 i.v56
def v146 : FVec F S128x128 .f32 := k0_pay14 i.v44 i.v48 i.v56
def v148 : FVec F S128x128 .bf16 := k0_pay15 i.v56
def v149 : FVec F S256x128 .bf16 := k0_pay16 i.v44
def v150 : FVec F S256x128 .bf16 := k0_pay17 i.v48
def v164 : FVec F S128x128 .f32 := k0_pay18 i.v148 i.v149 i.v150
def v182 : FVec F S128x128 .f32 := k0_pay19 i.v44 i.v48 i.v56
def v186 : FVec F S256x128 .bf16 := k0_pay20 i.v48
def v194 : FVec F S128x256 .f32 := k0_pay21 i.v44 i.v56
def v196 : FVec F S128x1 .f32 := k0_pay22 i.v44 i.v56
def v202 : FVec F S128x1024 .bf16 := k0_pay23 i.v74 i.v92 i.v110 i.v128 i.v146 i.v164 i.v182 i.v186 i.v194 i.v196
def v255 : FVec F S128x1024 .f32 := k0_pay30 i.v40 i.v52
def v273 : FVec F S128x128 .f32 := k0_pay31 i.v40 i.v44 i.v48 i.v52
def v291 : FVec F S128x128 .f32 := k0_pay32 i.v40 i.v44 i.v48 i.v52
def v295 : FVec F S256x128 .bf16 := k0_pay33 i.v48
def v298 : FVec F S128x256 .f32 := k0_pay34 i.v40 i.v44 i.v52
def v309 : FVec F S128x128 .f32 := k0_pay35 i.v295 i.v298
def v327 : FVec F S128x128 .f32 := k0_pay36 i.v44 i.v48 i.v255
def v345 : FVec F S128x128 .f32 := k0_pay37 i.v44 i.v48 i.v255
def v346 : FVec F S128x128 .f32 := k0_pay38 i.v255
def v363 : FVec F S128x128 .f32 := k0_pay39 i.v44 i.v48 i.v346
def v381 : FVec F S128x128 .f32 := k0_pay40 i.v44 i.v48 i.v255
def v385 : FVec F S256x128 .bf16 := k0_pay41 i.v48
def v393 : FVec F S128x256 .f32 := k0_pay42 i.v44 i.v255
def v401 : FVec F S128x1024 .bf16 := k0_pay43 i.v273 i.v291 i.v309 i.v327 i.v345 i.v363 i.v381 i.v385 i.v393

/-- The columns of the output projection's rows for piece 0 or 1, and for piece 2. -/
def wo384 (p : Fin 2) : Vec F S1024x384 .f32 := fun j => i.wo ((woRect384 p).emb j)
def wo256 : Vec F S1024x256 .f32 := fun j => i.wo (woRect256.emb j)

/-- The piece `(rb, p)` of a device's contribution. -/
def piece : Fin 2 → (p : Fin 3) → FVec F (sP p) .bf16
  | 0, 0 => k0_pay24 i.v74 i.v92 i.v110 i.v128 i.v146 i.v164 i.v182 i.v186 i.v194 i.v196 (i.wo384 0)
  | 0, 1 => k0_pay26 i.v74 i.v92 i.v110 i.v128 i.v146 i.v164 i.v182 i.v186 i.v194 i.v196 (i.wo384 1)
  | 0, 2 => k0_pay28 i.v202 i.wo256
  | 1, 0 => k0_pay44 i.v273 i.v291 i.v309 i.v327 i.v345 i.v363 i.v381 i.v385 i.v393 (i.wo384 0)
  | 1, 1 => k0_pay46 i.v273 i.v291 i.v309 i.v327 i.v345 i.v363 i.v381 i.v385 i.v393 (i.wo384 1)
  | 1, 2 => k0_pay48 i.v401 i.wo256

/-! ### What is stored of a piece is the piece -/

theorem stored00 : k0_pay25 i.v74 i.v92 i.v110 i.v128 i.v146 i.v164 i.v182 i.v186 i.v194 i.v196 (i.wo384 0) = i.piece 0 0 :=
  shapeCast_self (k0_pay24 i.v74 i.v92 i.v110 i.v128 i.v146 i.v164 i.v182 i.v186 i.v194 i.v196 (i.wo384 0)) _
theorem stored01 : k0_pay27 i.v74 i.v92 i.v110 i.v128 i.v146 i.v164 i.v182 i.v186 i.v194 i.v196 (i.wo384 1) = i.piece 0 1 :=
  shapeCast_self (k0_pay26 i.v74 i.v92 i.v110 i.v128 i.v146 i.v164 i.v182 i.v186 i.v194 i.v196 (i.wo384 1)) _
theorem stored02 : k0_pay29 i.v202 i.wo256 = i.piece 0 2 := shapeCast_self (k0_pay28 i.v202 i.wo256) _
theorem stored10 : k0_pay45 i.v273 i.v291 i.v309 i.v327 i.v345 i.v363 i.v381 i.v385 i.v393 (i.wo384 0) = i.piece 1 0 :=
  shapeCast_self (k0_pay44 i.v273 i.v291 i.v309 i.v327 i.v345 i.v363 i.v381 i.v385 i.v393 (i.wo384 0)) _
theorem stored11 (w : Vec F S1024x384 .f32) : k0_pay47 i.v273 i.v291 i.v309 i.v327 i.v345 i.v363 i.v381 i.v385 i.v393 w = k0_pay46 i.v273 i.v291 i.v309 i.v327 i.v345 i.v363 i.v381 i.v385 i.v393 w :=
  shapeCast_self (k0_pay46 i.v273 i.v291 i.v309 i.v327 i.v345 i.v363 i.v381 i.v385 i.v393 w) _
theorem stored12 : k0_pay49 i.v401 i.wo256 = i.piece 1 2 := shapeCast_self (k0_pay48 i.v401 i.wo256) _

end Inp

/-- The pieces of every device. -/
abbrev pieces (I : Dev nD → Inp F) : Fin 2 → (p : Fin 3) → Dev nD → FVec F (sP p) .bf16 := fun rb p c => (I c).piece rb p

/-- The value device `c` holds of piece `(rb, p)` after `r` rounds. -/
abbrev pt (I : Dev nD → Inp F) (rb : Fin 2) (p : Fin 3) (r : ℕ) (c : Dev nD) : FVec F (sP p) .bf16 := part (pieces I) rb p r c

/-- The piece of the result: the sum of all devices' pieces, widened. -/
def outP (I : Dev nD → Inp F) (rb : Fin 2) (p : Fin 3) (c : Dev nD) : FVec F (sP p) .f32 := extf .f32 (pt I rb p 3 c) bitsLt_bf16_f32

/-- What is left of a program after a part that returns a `β`. -/
abbrev Rest (F : FTy → Type) [FloatOps F] (β α : Type) : Type 1 := β → Prog (TpuEff nD τ sig (Elt F) Λ₀ .tc) α

/-! ## The devices of the transfers -/

theorem dev1_eq (c : Dev nD) : (⟨k0_dev1 c, k0_dev1_lt c⟩ : Dev nD) = pe 0 c := by revert c; decide +kernel
theorem dev2_eq (c : Dev nD) : (⟨k0_dev2 c, k0_dev2_lt c⟩ : Dev nD) = pe 1 c := by revert c; decide +kernel
theorem dev3_eq (c : Dev nD) : (⟨k0_dev3 c, k0_dev3_lt c⟩ : Dev nD) = pe 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 3 c := by revert c; decide +kernel
theorem dev8_eq (c : Dev nD) : (⟨k0_dev8 c, k0_dev8_lt c⟩ : Dev nD) = peer 4 c := by revert c; decide +kernel
theorem dev9_eq (c : Dev nD) : (⟨k0_dev9 c, k0_dev9_lt c⟩ : Dev nD) = peer 5 c := by revert c; decide +kernel
theorem dev10_eq (c : Dev nD) : (⟨k0_dev10 c, k0_dev10_lt c⟩ : Dev nD) = peer 6 c := by revert c; decide +kernel
theorem dev11_eq (c : Dev nD) : (⟨k0_dev11 c, k0_dev11_lt c⟩ : Dev nD) = peer 7 c := by revert c; decide +kernel
theorem dev12_eq (c : Dev nD) : (⟨k0_dev12 c, k0_dev12_lt c⟩ : Dev nD) = peer 8 c := by revert c; decide +kernel
theorem dev13_eq (c : Dev nD) : (⟨k0_dev13 c, k0_dev13_lt c⟩ : Dev nD) = peer 9 c := by revert c; decide +kernel
theorem dev14_eq (c : Dev nD) : (⟨k0_dev14 c, k0_dev14_lt c⟩ : Dev nD) = peer 10 c := by revert c; decide +kernel
theorem dev15_eq (c : Dev nD) : (⟨k0_dev15 c, k0_dev15_lt c⟩ : Dev nD) = peer 11 c := by revert c; decide +kernel
theorem dev16_eq (c : Dev nD) : (⟨k0_dev16 c, k0_dev16_lt c⟩ : Dev nD) = peer 12 c := by revert c; decide +kernel
theorem dev17_eq (c : Dev nD) : (⟨k0_dev17 c, k0_dev17_lt c⟩ : Dev nD) = peer 13 c := by revert c; decide +kernel
theorem dev18_eq (c : Dev nD) : (⟨k0_dev18 c, k0_dev18_lt c⟩ : Dev nD) = peer 14 c := by revert c; decide +kernel
theorem dev19_eq (c : Dev nD) : (⟨k0_dev19 c, k0_dev19_lt c⟩ : Dev nD) = peer 15 c := by revert c; decide +kernel
theorem dev20_eq (c : Dev nD) : (⟨k0_dev20 c, k0_dev20_lt c⟩ : Dev nD) = peer 16 c := by revert c; decide +kernel
theorem dev21_eq (c : Dev nD) : (⟨k0_dev21 c, k0_dev21_lt c⟩ : Dev nD) = peer 17 c := by revert c; decide +kernel

end Cert.Exchange

end
-- ==== Proof.Start.lean ====
/-
The start of the program: the copies in, the barrier, and the first loads.
-/
module

public import proofs.«01_k».proof.Proof.Pieces
public import Idealize.ShloMosaic.Lib.VecWindow

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Fin 2 → (p : Fin 3) → Dev nD → FVec F (sP p) .bf16) (K : Dev nD × CI → ℕ)

/-! ## The barrier -/

/-- A device's debts, whatever it has waited for. -/
def owesO (c : Dev nD) (O : CellTallies nD τ sig Unit) : sProp 𝕄 := iprop(∃ W, owes (c : Thread nD τ) O W)

theorem owesN_intro (c : Dev nD) (n : ℕ) : (owesO c (owed c n) : sProp 𝕄) ⊢ owesN c n := BI.Entails.refl _

/-- Where the transfers along `a` land on device `c` itself. -/
def landing (c : Dev nD) (a : Fin 3) : sProp 𝕄 := bigSep (along a) fun e => some' c (dst e)

/-- What it takes to signal the neighbour along `a`. -/
def SigTok (a : Fin 3) (c : Dev nD) : sProp 𝕄 :=
  iprop(cellInv ER (Rd X) (K (pe a c, ciB)) (barCell (pe a c)) ∗ reached ER (barCell (pe a c)) 0 ∗ dutyTok ER (barCell (pe a c)) 0 a)

/-- What it takes to wait at the barrier. -/
def BarTok (c : Dev nD) : sProp 𝕄 :=
  iprop(cellInv ER (Rd X) (K (c, ciB)) (barCell c) ∗ atPos ER (barCell c) 0 ∅ 0 ∗ cred (tallyAt (barCell c) () 3))

theorem signal_step (a : Fin 3) (c d : Dev nD) (hd : d = pe a c) (O : CellTallies nD τ sig Unit)
    {α : Type} {Q : α → sProp 𝕄} {k : PUnit → Prog (TpuEff nD τ sig (Elt F) Λ₀ .tc) α} :
    iprop(SigTok X K a c ∗ landing c a ∗ owesO c (O + tallyAt (barCell (pe a c)) () 1))
      ⊢ iprop((owesO c O -∗ wpc c (k ⟨⟩) Q) -∗ wpc c (.op (.semSignal (d, .tc) barS (1#32 : BitVec 32).toInt) k) Q) := by
  subst hd
  unfold SigTok owesO
  iintro ⟨⟨#HI, #Hr, Ht⟩, Hl, ⟨%W, HO⟩⟩ Hk
  iapply (Rounds.wp_signal 𝒱₀ ER (Rd X) (c : Thread nD τ) none (dst := (pe a c : Thread nD τ)) (κ := K (pe a c, ciB))
      (d := a) (by rw [duties_bar]; exact Finset.mem_univ _) ((amount_bar X (pe a c) a).trans (by decide)) () O rfl) $$ [HO Ht Hl]
  · unfold landing
    isplitr; · iexact HI
    isplitl [HO]; · iexact HO
    isplitl [Ht]; · iexact Ht
    isplitl [Hl]
    · rw [payload_bar]; unfold barPay; rw [pe_pe]; iexact Hl
    iexact Hr
  iintro HO
  iapply Hk
  iexists _; iexact HO

theorem barrier_step (c : Dev nD)
    {α : Type} {Q : α → sProp 𝕄} {k : PUnit → Prog (TpuEff nD τ sig (Elt F) Λ₀ .tc) α} :
    iprop(levAts L lv ∗ BarTok X K c ∗ owesN c 0)
      ⊢ iprop((iprop(semVal (barCell c) 0 ∗ (barPay c 0 ∗ barPay c 1 ∗ barPay c 2) ∗ owesN c 0) -∗ wpc c (k ⟨⟩) Q)
          -∗ wpc c (.op (.semWait barS (3#32 : BitVec 32).toInt) k) Q) := by
  unfold BarTok owesN
  iintro ⟨#Hlev, ⟨#HI, Hat, Hc⟩, ⟨%W, HO⟩⟩ Hk
  iapply (Rounds.wp_wait_rest_token 𝒱₀ ER (Rd X) (c : Thread nD τ) none (κ := K (c, ciB))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) 0 (by decide)); iexact Hlev
    iexact Hat
  iintro ⟨HO, Hat, -, Hpay⟩
  ihave Hp := (Entails.of_eq (rest_bar X c)) $$ Hpay
  imod (Rounds.cell_close ER (Rd X) (Set.mem_univ (K (c, ciB))) (fun h => h) (R := 0 + 1) (duties_later X (barCell c))) $$ [Hat] with Hz
  · isplitr; · iexact HI
    iexact Hat
  iapply Hk
  isplitl [Hz]; · iexact Hz
  isplitl [Hp]; · iexact Hp
  iexists _; iexact HO

/-! ## The arguments -/

/-- What a device copies in: its copy of the tokens and the columns of the two key and value matrices that are its heads'. -/
abbrev xM : Memref sig .tc .hbm S256x1024 .f32 :=
  ((Memref.whole main_arg0).slice (Rect.unit (s := S1x256x1024) ![0, 0, 0] S1x256x1024.size inb_S1x256x1024_S1x256x1024_0_0_0) (fun _ => rfl)).squeeze
    S256x1024 squeezes_S1x256x1024_S256x1024
abbrev kvRect (c : Dev nD) : Rect S1024x2048 := Rect.unit (s := S1024x2048) (k0_off1 c) S1024x256.size (k0_off1_inb c)
abbrev wkM (c : Dev nD) : Memref sig .tc .hbm S1024x256 .f32 := (Memref.whole main_arg3).slice (kvRect c) (fun _ => rfl)
abbrev wvM (c : Dev nD) : Memref sig .tc .hbm S1024x256 .f32 := (Memref.whole main_arg4).slice (kvRect c) (fun _ => rfl)
abbrev qM : Memref sig .tc .hbm S1024x1024 .f32 := Memref.whole main_arg1
abbrev oM : Memref sig .tc .hbm S1024x1024 .f32 := Memref.whole main_arg2
abbrev x_s : Memref sig .tc .vmem S256x1024 .f32 := Memref.whole cc0_scratch0
abbrev wq_s : Memref sig .tc .vmem S1024x1024 .f32 := Memref.whole cc0_scratch1
abbrev wk_s : Memref sig .tc .vmem S1024x256 .f32 := Memref.whole cc0_scratch2
abbrev wv_s : Memref sig .tc .vmem S1024x256 .f32 := Memref.whole cc0_scratch3
abbrev wo_s : Memref sig .tc .vmem S1024x1024 .f32 := Memref.whole cc0_scratch4

/-- The share of the arguments the copies read with. -/
abbrev half : PosShare TreeShare := fullShare.right

variable (I : Dev nD → Inp F)

/-- The arguments as the copies read them. -/
def Args (c : Dev nD) : sProp 𝕄 :=
  iprop(owns (c : Thread nD τ) xM half (I c).x ∗ owns (c : Thread nD τ) qM half (I c).wq ∗ owns (c : Thread nD τ) (wkM c) half (I c).wk
    ∗ owns (c : Thread nD τ) (wvM c) half (I c).wv ∗ owns (c : Thread nD τ) oM half (I c).wo)
/-- The buffers the arguments are copied to, and the copies' semaphores. -/
def Bufs (c : Dev nD) : sProp 𝕄 :=
  iprop(some' c x_s ∗ some' c wq_s ∗ some' c wk_s ∗ some' c wv_s ∗ some' c wo_s)
def InSems (c : Dev nD) : sProp 𝕄 :=
  iprop(semVal ((c : Thread nD τ), .dma (inS 0)) 0 ∗ semVal ((c : Thread nD τ), .dma (inS 1)) 0 ∗ semVal ((c : Thread nD τ), .dma (inS 2)) 0
    ∗ semVal ((c : Thread nD τ), .dma (inS 3)) 0 ∗ semVal ((c : Thread nD τ), .dma (inS 4)) 0)
/-- The five copies in flight. -/
def Copies (c : Dev nD) : sProp 𝕄 :=
  iprop(Flying c (inS 0) xM x_s half (I c).x ∗ Flying c (inS 1) qM wq_s half (I c).wq ∗ Flying c (inS 2) (wkM c) wk_s half (I c).wk
    ∗ Flying c (inS 3) (wvM c) wv_s half (I c).wv ∗ Flying c (inS 4) oM wo_s half (I c).wo)
/-- The copied arguments. -/
def Copied (c : Dev nD) : sProp 𝕄 :=
  iprop(owns (c : Thread nD τ) x_s fullShare (I c).x ∗ owns (c : Thread nD τ) wq_s fullShare (I c).wq ∗ owns (c : Thread nD τ) wk_s fullShare (I c).wk
    ∗ owns (c : Thread nD τ) wv_s fullShare (I c).wv)

/-- A rectangle that is a whole two-axis buffer reads all of it. -/
theorem full_emb {n m : ℕ} {α : Type} (inb) (Z : (⟨2, ![n, m]⟩ : Shape).Idx → α) :
    (fun j => Z ((Rect.unit (s := ⟨2, ![n, m]⟩) ![0, 0] ![n, m] inb).emb j)) = Z := by
  funext j
  congr 1
  funext a
  refine Fin.ext ?_
  rw [Rect.emb_apply]
  fin_cases a
  · show 0 + 1 * _ = _; omega
  · show 0 + 1 * _ = _; omega

theorem pos_x : 0 < S256x1024.numel := Shape.numel_pos fun a => by fin_cases a <;> decide
theorem pos_w : 0 < S1024x1024.numel := Shape.numel_pos fun a => by fin_cases a <;> decide
theorem pos_kv : 0 < S1024x256.numel := Shape.numel_pos fun a => by fin_cases a <;> decide

theorem device_step (c : Dev nD) {α : Type} {Q : α → sProp 𝕄} {k : Dev nD → Prog (TpuEff nD τ sig (Elt F) Λ₀ .tc) α} :
    wpc c (k c) Q ⊢ wpc c (.op .deviceId k) Q := Entails.of_eq (Eq.symm (wp_deviceId 𝒱₀ (c : Thread nD τ) none Set.univ))

theorem part1 (c : Dev nD) {α : Type} {Q : α → sProp 𝕄} {k : Rest F (Σ' (d0 : Dev nD) (v2 : BitVec 32) (v19 : Sems sig S_) (v26 : BitVec 32), BitVec 32) α} :
    ⊢ iprop(Args I c -∗ Bufs c -∗ InSems c -∗ SigTok X K 0 c -∗ landing c 0 -∗ SigTok X K 1 c -∗ landing c 1 -∗ owesO c (O₀ c)
        -∗ (∀ (v2 : BitVec 32) (v26 : BitVec 32), Copies I c -∗ owesO c (owed c 0 + tallyAt (barCell (pe 2 c)) () 1)
              -∗ wpc c (k ⟨c, v2, SemArray.scalar (sig.barrier 0 rfl), v26, 1#32⟩) Q)
        -∗ wpc (α := α) c ((atBufs (k0_part1 (F := F))).bind k) Q) := by
  simp only [k0_part1_eq_skeleton]
  unfold k0_part1_skel
  simp only [semSignalWord, Prog.lift, Prog.bind_op, Prog.bind_ret, Prog.pure_eq_ret]
  unfold Args Bufs InSems Copies
  iintro ⟨HA0, HA1, HA2, HA3, HA4⟩ ⟨HB0, HB1, HB2, HB3, HB4⟩ ⟨HV0, HV1, HV2, HV3, HV4⟩ Ht0 Hl0 Ht1 Hl1 HO Hk
  iapply (device_step c)
  iapply (copy_step c xM x_s (inS 0) pos_x) $$ [HA0 HB0 HV0]
  · isplitl [HA0]; · iexact HA0
    isplitl [HB0]; · iexact HB0
    iexact HV0
  iintro HF0
  iapply (copy_step c qM wq_s (inS 1) pos_w) $$ [HA1 HB1 HV1]
  · isplitl [HA1]; · iexact HA1
    isplitl [HB1]; · iexact HB1
    iexact HV1
  iintro HF1
  iapply (copy_step c (wkM c) wk_s (inS 2) pos_kv) $$ [HA2 HB2 HV2]
  · isplitl [HA2]; · iexact HA2
    isplitl [HB2]; · iexact HB2
    iexact HV2
  iintro HF2
  iapply (copy_step c (wvM c) wv_s (inS 3) pos_kv) $$ [HA3 HB3 HV3]
  · isplitl [HA3]; · iexact HA3
    isplitl [HB3]; · iexact HB3
    iexact HV3
  iintro HF3
  iapply (copy_step c oM wo_s (inS 4) pos_w) $$ [HA4 HB4 HV4]
  · isplitl [HA4]; · iexact HA4
    isplitl [HB4]; · iexact HB4
    iexact HV4
  iintro HF4
  iapply (signal_step X K 0 c _ (dev1_eq c) (owed c 0 + tallyAt (barCell (pe 2 c)) () 1 + tallyAt (barCell (pe 1 c)) () 1)) $$ [Ht0 Hl0 HO]
  · isplitl [Ht0]; · iexact Ht0
    isplitl [Hl0]; · iexact Hl0
    iexact HO
  iintro HO
  iapply (signal_step X K 1 c _ (dev2_eq c) (owed c 0 + tallyAt (barCell (pe 2 c)) () 1)) $$ [Ht1 Hl1 HO]
  · isplitl [Ht1]; · iexact Ht1
    isplitl [Hl1]; · iexact Hl1
    iexact HO
  iintro HO
  iapply Hk $$ [HF0 HF1 HF2 HF3 HF4] [HO]
  · isplitl [HF0]; · iexact HF0
    isplitl [HF1]; · iexact HF1
    isplitl [HF2]; · iexact HF2
    isplitl [HF3]; · iexact HF3
    iexact HF4
  · iexact HO

theorem part2 (c : Dev nD) (v26 : BitVec 32) {α : Type} {Q : α → sProp 𝕄}
    {k : Rest F (Σ' (v40 : FVec F S256x1024 .bf16) (v44 : FVec F S256x256 .bf16) (v48 : FVec F S256x256 .bf16) (v52 : FVec F S1024x1024 .bf16) (v55 : FVec F S128x1024 .bf16), FVec F S128x1024 .f32) α} :
    ⊢ iprop(levAts L lv -∗ Copies I c -∗ SigTok X K 2 c -∗ landing c 2 -∗ BarTok X K c -∗ owesO c (owed c 0 + tallyAt (barCell (pe 2 c)) () 1)
        -∗ (semVal (barCell c) 0 -∗ (barPay c 0 ∗ barPay c 1 ∗ barPay c 2) -∗ Copied I c
              -∗ owns (c : Thread nD τ) wo_s fullShare (I c).wo -∗ InSems c -∗ owesN c 0
              -∗ wpc c (k ⟨(I c).v40, (I c).v44, (I c).v48, (I c).v52, (I c).v55, Inp.z⟩) Q)
        -∗ wpc (α := α) c ((atBufs (k0_part2 (F := F)) c (SemArray.scalar (sig.barrier 0 rfl)) v26 1#32).bind k) Q) := by
  simp only [k0_part2_eq_skeleton]
  unfold k0_part2_skel
  simp only [semSignalWord, semWaitWord, Prog.lift, Prog.bind_op, Prog.bind_ret, Prog.pure_eq_ret]
  unfold Copies Copied InSems
  iintro #Hlev ⟨HF0, HF1, HF2, HF3, HF4⟩ Ht2 Hl2 HB HO Hk
  iapply (signal_step X K 2 c _ (dev3_eq c) (owed c 0)) $$ [Ht2 Hl2 HO]
  · isplitl [Ht2]; · iexact Ht2
    isplitl [Hl2]; · iexact Hl2
    iexact HO
  iintro HO
  iapply (barrier_step X K c) $$ [HB HO]
  · isplitr; · iexact Hlev
    isplitl [HB]; · iexact HB
    iapply (owesN_intro c 0); iexact HO
  iintro ⟨Hz, Hpay, HO⟩
  iapply (copy_wait c xM x_s (inS 0) 0 (by decide)) $$ [HF0 HO]
  · isplitr; · iexact Hlev
    isplitl [HF0]; · iexact HF0
    iexact HO
  iintro ⟨Hx, -, HV0, HO⟩
  iapply (copy_wait c (wkM c) wk_s (inS 2) 0 (by decide)) $$ [HF2 HO]
  · isplitr; · iexact Hlev
    isplitl [HF2]; · iexact HF2
    iexact HO
  iintro ⟨Hwk, -, HV2, HO⟩
  iapply (copy_wait c (wvM c) wv_s (inS 3) 0 (by decide)) $$ [HF3 HO]
  · isplitr; · iexact Hlev
    isplitl [HF3]; · iexact HF3
    iexact HO
  iintro ⟨Hwv, -, HV3, HO⟩
  iapply (load_part c x_s _ _) $$ [Hx]
  · iexact Hx
  iintro Hx
  iapply (load_part c wk_s _ _) $$ [Hwk]
  · iexact Hwk
  iintro Hwk
  iapply (load_part c wv_s _ _) $$ [Hwv]
  · iexact Hwv
  iintro Hwv
  iapply (copy_wait c qM wq_s (inS 1) 0 (by decide)) $$ [HF1 HO]
  · isplitr; · iexact Hlev
    isplitl [HF1]; · iexact HF1
    iexact HO
  iintro ⟨Hwq, -, HV1, HO⟩
  iapply (load_part c wq_s _ _) $$ [Hwq]
  · iexact Hwq
  iintro Hwq
  iapply (copy_wait c oM wo_s (inS 4) 0 (by decide)) $$ [HF4 HO]
  · isplitr; · iexact Hlev
    isplitl [HF4]; · iexact HF4
    iexact HO
  iintro ⟨Hwo, -, HV4, HO⟩
  simp only [Prog.bind_ret]
  rw [full_emb, full_emb, full_emb, full_emb]
  iapply Hk $$ [Hz] [Hpay] [Hx Hwq Hwk Hwv] [Hwo] [HV0 HV1 HV2 HV3 HV4] [HO]
  · iexact Hz
  · iexact Hpay
  · isplitl [Hx]; · iexact Hx
    isplitl [Hwq]; · iexact Hwq
    isplitl [Hwk]; · iexact Hwk
    iexact Hwv
  · iexact Hwo
  · isplitl [HV0]; · iexact HV0
    isplitl [HV1]; · iexact HV1
    isplitl [HV2]; · iexact HV2
    isplitl [HV3]; · iexact HV3
    iexact HV4
  · iexact HO

end Cert.Exchange

end
-- ==== Proof.PartsFirst.lean ====
/-
The parts of the program that compute the pieces and start the first round: what each needs, returns and leaves.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Dev nD → Inp F) (K : Dev nD × CI → ℕ)

theorem part3 (c : Dev nD)  {α : Type} {Q : α → sProp 𝕄} {k : Rest F ((Σ' (v56 : FVec F S128x1024 .f32) (v74 : FVec F S128x128 .f32) (v92 : FVec F S128x128 .f32) (v96 : FVec F S256x128 .bf16) (v99 : FVec F S128x256 .f32), FVec F S128x256 .f32)) α} :
    ⊢ iprop((wpc c (k ⟨(I c).v56, (I c).v74, (I c).v92, (I c).v96, (I c).v99, (I c).v102⟩) Q)
        -∗ wpc (α := α) c ((atBufs (k0_part3 (F := F)) ((I c).v44) ((I c).v48) ((I c).v52) ((I c).v55) Inp.z).bind k) Q) := by
  simp only [k0_part3_eq_skeleton]
  unfold k0_part3_skel
  simp only [Prog.lift, Prog.bind_op, Prog.bind_ret, Prog.pure_eq_ret]
  iintro Hk
  iapply Hk

theorem part4 (c : Dev nD)  {α : Type} {Q : α → sProp 𝕄} {k : Rest F ((Σ' (v110 : FVec F S128x128 .f32) (v128 : FVec F S128x128 .f32) (v146 : FVec F S128x128 .f32) (v148 : FVec F S128x128 .bf16) (v149 : FVec F S256x128 .bf16), FVec F S256x128 .bf16)) α} :
    ⊢ iprop((wpc c (k ⟨(I c).v110, (I c).v128, (I c).v146, (I c).v148, (I c).v149, (I c).v150⟩) Q)
        -∗ wpc (α := α) c ((atBufs (k0_part4 (F := F)) ((I c).v44) ((I c).v48) ((I c).v56) ((I c).v96) ((I c).v99) ((I c).v102)).bind k) Q) := by
  simp only [k0_part4_eq_skeleton]
  unfold k0_part4_skel
  simp only [Prog.lift, Prog.bind_op, Prog.bind_ret, Prog.pure_eq_ret]
  iintro Hk
  iapply Hk

theorem part5 (c : Dev nD)  {α : Type} {Q : α → sProp 𝕄} {k : Rest F ((Σ' (v164 : FVec F S128x128 .f32) (v182 : FVec F S128x128 .f32) (v186 : FVec F S256x128 .bf16) (v194 : FVec F S128x256 .f32), FVec F S128x1 .f32)) α} :
    ⊢ iprop((wpc c (k ⟨(I c).v164, (I c).v182, (I c).v186, (I c).v194, (I c).v196⟩) Q)
        -∗ wpc (α := α) c ((atBufs (k0_part5 (F := F)) ((I c).v44) ((I c).v48) ((I c).v56) ((I c).v148) ((I c).v149) ((I c).v150)).bind k) Q) := by
  simp only [k0_part5_eq_skeleton]
  unfold k0_part5_skel
  simp only [Prog.lift, Prog.bind_op, Prog.bind_ret, Prog.pure_eq_ret]
  iintro Hk
  iapply Hk

theorem part6 (c : Dev nD) (v2 : BitVec 32) {α : Type} {Q : α → sProp 𝕄} {k : Rest F ((Σ' (v202 : FVec F S128x1024 .bf16) (v206 : FVec F S128x384 .bf16) (v210 : BitVec 32) (v223 : FVec F S128x384 .bf16), BitVec 32)) α} :
    ⊢ iprop(owns (c : Thread nD τ) (Memref.whole cc0_scratch4) fullShare (I c).wo -∗ some' c (sSlot 0 0) -∗ Idle (pieces I) K 0 c -∗ owesN c 0 -∗ some' c (sSlot 0 1) -∗ (∀ (v210 : BitVec 32) (v227 : BitVec 32), owns (c : Thread nD τ) (Memref.whole cc0_scratch4) fullShare (I c).wo -∗ Sent (pieces I) K 0 c -∗ owesN c 1 -∗ owns (c : Thread nD τ) (sSlot 0 1) fullShare (pt I 0 1 0 c) -∗ wpc c (k ⟨(I c).v202, pt I 0 0 0 c, v210, pt I 0 1 0 c, v227⟩) Q)
        -∗ wpc (α := α) c ((atBufs (k0_part6 (F := F)) c v2 ((I c).v74) ((I c).v92) ((I c).v110) ((I c).v128) ((I c).v146) ((I c).v164) ((I c).v182) ((I c).v186) ((I c).v194) ((I c).v196)).bind k) Q) := by
  simp only [k0_part6_eq_skeleton]
  unfold k0_part6_skel
  simp only [Prog.lift, Prog.bind_op, Prog.bind_ret, Prog.pure_eq_ret]
  iintro Hwo HS00 HE0 Hn HS01 Hk
  iapply (load_part c _ _ _) $$ [Hwo]
  · iexact Hwo
  iintro Hwo
  iapply (load_any c _ _ (fun _ => rfl)) $$ [HS00]
  · iexact HS00
  iintro %_ HS00
  iapply (store_any c _ _ (fun _ => rfl) (pt I 0 0 0 c) ((I c).stored00)) $$ [HS00]
  · iexact HS00
  iintro HS00
  iapply (send_step (pieces I) K 0 c _ (dev4_eq c)) $$ [HE0 HS00 Hn]
  · isplitl [HE0]; · iexact HE0
    isplitl [HS00]; · iexact HS00
    iexact Hn
  iintro ⟨HE0, Hn⟩
  iapply (load_part c _ _ _) $$ [Hwo]
  · iexact Hwo
  iintro Hwo
  iapply (load_any c _ _ (fun _ => rfl)) $$ [HS01]
  · iexact HS01
  iintro %_ HS01
  iapply (store_any c _ _ (fun _ => rfl) (pt I 0 1 0 c) ((I c).stored01)) $$ [HS01]
  · iexact HS01
  iintro HS01
  iapply Hk $$ [Hwo] [HE0] [Hn] [HS01]
  · iexact Hwo
  · iexact HE0
  · iexact Hn
  · iexact HS01

theorem part7 (c : Dev nD) (v2 : BitVec 32) (v227 : BitVec 32) {α : Type} {Q : α → sProp 𝕄} {k : Rest F ((Σ' (v240 : FVec F S128x256 .bf16), BitVec 32)) α} :
    ⊢ iprop(Idle (pieces I) K 1 c -∗ owns (c : Thread nD τ) (sSlot 0 1) fullShare (pt I 0 1 0 c) -∗ owesN c 1 -∗ owns (c : Thread nD τ) (Memref.whole cc0_scratch4) fullShare (I c).wo -∗ some' c (sSlot 0 2) -∗ (∀ (v244 : BitVec 32), Sent (pieces I) K 1 c -∗ owesN c 2 -∗ owns (c : Thread nD τ) (Memref.whole cc0_scratch4) fullShare (I c).wo -∗ owns (c : Thread nD τ) (sSlot 0 2) fullShare (pt I 0 2 0 c) -∗ wpc c (k ⟨pt I 0 2 0 c, v244⟩) Q)
        -∗ wpc (α := α) c ((atBufs (k0_part7 (F := F)) c v2 ((I c).v202) v227).bind k) Q) := by
  simp only [k0_part7_eq_skeleton]
  unfold k0_part7_skel
  simp only [Prog.lift, Prog.bind_op, Prog.bind_ret, Prog.pure_eq_ret]
  iintro HE1 HS01 Hn Hwo HS02 Hk
  iapply (send_step (pieces I) K 1 c _ (dev5_eq c)) $$ [HE1 HS01 Hn]
  · isplitl [HE1]; · iexact HE1
    isplitl [HS01]; · iexact HS01
    iexact Hn
  iintro ⟨HE1, Hn⟩
  iapply (load_part c _ _ _) $$ [Hwo]
  · iexact Hwo
  iintro Hwo
  iapply (load_any c _ _ (fun _ => rfl)) $$ [HS02]
  · iexact HS02
  iintro %_ HS02
  iapply (store_any c _ _ (fun _ => rfl) (pt I 0 2 0 c) ((I c).stored02)) $$ [HS02]
  · iexact HS02
  iintro HS02
  iapply Hk $$ [HE1] [Hn] [Hwo] [HS02]
  · iexact HE1
  · iexact Hn
  · iexact Hwo
  · iexact HS02

theorem part8 (c : Dev nD)  {α : Type} {Q : α → sProp 𝕄} {k : Rest F ((Σ' (v255 : FVec F S128x1024 .f32) (v273 : FVec F S128x128 .f32) (v291 : FVec F S128x128 .f32) (v295 : FVec F S256x128 .bf16), FVec F S128x256 .f32)) α} :
    ⊢ iprop(Idle (pieces I) K 2 c -∗ owns (c : Thread nD τ) (sSlot 0 2) fullShare (pt I 0 2 0 c) -∗ owesN c 2 -∗ (Sent (pieces I) K 2 c -∗ owesN c 3 -∗ wpc c (k ⟨(I c).v255, (I c).v273, (I c).v291, (I c).v295, (I c).v298⟩) Q)
        -∗ wpc (α := α) c ((atBufs (k0_part8 (F := F)) c ((I c).v40) ((I c).v44) ((I c).v48) ((I c).v52)).bind k) Q) := by
  simp only [k0_part8_eq_skeleton]
  unfold k0_part8_skel
  simp only [Prog.lift, Prog.bind_op, Prog.bind_ret, Prog.pure_eq_ret]
  iintro HE2 HS02 Hn Hk
  iapply (send_step (pieces I) K 2 c _ (dev6_eq c)) $$ [HE2 HS02 Hn]
  · isplitl [HE2]; · iexact HE2
    isplitl [HS02]; · iexact HS02
    iexact Hn
  iintro ⟨HE2, Hn⟩
  iapply Hk $$ [HE2] [Hn]
  · iexact HE2
  · iexact Hn

theorem part9 (c : Dev nD)  {α : Type} {Q : α → sProp 𝕄} {k : Rest F ((Σ' (v309 : FVec F S128x128 .f32) (v327 : FVec F S128x128 .f32) (v345 : FVec F S128x128 .f32), FVec F S128x128 .f32)) α} :
    ⊢ iprop((wpc c (k ⟨(I c).v309, (I c).v327, (I c).v345, (I c).v346⟩) Q)
        -∗ wpc (α := α) c ((atBufs (k0_part9 (F := F)) ((I c).v44) ((I c).v48) ((I c).v255) ((I c).v295) ((I c).v298)).bind k) Q) := by
  simp only [k0_part9_eq_skeleton]
  unfold k0_part9_skel
  simp only [Prog.lift, Prog.bind_op, Prog.bind_ret, Prog.pure_eq_ret]
  iintro Hk
  iapply Hk

theorem part10 (c : Dev nD)  {α : Type} {Q : α → sProp 𝕄} {k : Rest F ((Σ' (v363 : FVec F S128x128 .f32) (v381 : FVec F S128x128 .f32) (v385 : FVec F S256x128 .bf16), FVec F S128x256 .f32)) α} :
    ⊢ iprop((wpc c (k ⟨(I c).v363, (I c).v381, (I c).v385, (I c).v393⟩) Q)
        -∗ wpc (α := α) c ((atBufs (k0_part10 (F := F)) ((I c).v44) ((I c).v48) ((I c).v255) ((I c).v346)).bind k) Q) := by
  simp only [k0_part10_eq_skeleton]
  unfold k0_part10_skel
  simp only [Prog.lift, Prog.bind_op, Prog.bind_ret, Prog.pure_eq_ret]
  iintro Hk
  iapply Hk

theorem part11 (c : Dev nD) (v2 : BitVec 32) {α : Type} {Q : α → sProp 𝕄} {k : Rest F ((Σ' (v401 : FVec F S128x1024 .bf16) (v405 : FVec F S128x384 .bf16) (v409 : BitVec 32) (v422 : FVec F S128x384 .bf16), FVec F S128x384 .bf16)) α} :
    ⊢ iprop(owns (c : Thread nD τ) (Memref.whole cc0_scratch4) fullShare (I c).wo -∗ some' c (sSlot 1 0) -∗ Idle (pieces I) K 3 c -∗ owesN c 3 -∗ some' c (sSlot 1 1) -∗ (∀ (v409 : BitVec 32), owns (c : Thread nD τ) (Memref.whole cc0_scratch4) fullShare (I c).wo -∗ Sent (pieces I) K 3 c -∗ owesN c 4 -∗ some' c (sSlot 1 1) -∗ wpc c (k ⟨(I c).v401, pt I 1 0 0 c, v409, pt I 1 1 0 c, pt I 1 1 0 c⟩) Q)
        -∗ wpc (α := α) c ((atBufs (k0_part11 (F := F)) c v2 ((I c).v273) ((I c).v291) ((I c).v309) ((I c).v327) ((I c).v345) ((I c).v363) ((I c).v381) ((I c).v385) ((I c).v393)).bind k) Q) := by
  simp only [k0_part11_eq_skeleton]
  unfold k0_part11_skel
  simp only [Prog.lift, Prog.bind_op, Prog.bind_ret, Prog.pure_eq_ret]
  iintro Hwo HS10 HE3 Hn HS11 Hk
  iapply (load_part c _ _ _) $$ [Hwo]
  · iexact Hwo
  iintro Hwo
  iapply (load_any c _ _ (fun _ => rfl)) $$ [HS10]
  · iexact HS10
  iintro %_ HS10
  iapply (store_any c _ _ (fun _ => rfl) (pt I 1 0 0 c) ((I c).stored10)) $$ [HS10]
  · iexact HS10
  iintro HS10
  iapply (send_step (pieces I) K 3 c _ (dev7_eq c)) $$ [HE3 HS10 Hn]
  · isplitl [HE3]; · iexact HE3
    isplitl [HS10]; · iexact HS10
    iexact Hn
  iintro ⟨HE3, Hn⟩
  iapply (load_part c _ _ _) $$ [Hwo]
  · iexact Hwo
  iintro Hwo
  iapply (load_any c _ _ (fun _ => rfl)) $$ [HS11]
  · iexact HS11
  iintro %_ HS11
  simp only [Inp.stored11]
  iapply Hk $$ [Hwo] [HE3] [Hn] [HS11]
  · iexact Hwo
  · iexact HE3
  · iexact Hn
  · iexact HS11

theorem part12 (c : Dev nD) (v2 : BitVec 32) {α : Type} {Q : α → sProp 𝕄} {k : Rest F ((Σ' (v426 : BitVec 32) (v439 : FVec F S128x256 .bf16), BitVec 32)) α} :
    ⊢ iprop(some' c (sSlot 1 1) -∗ Idle (pieces I) K 4 c -∗ owesN c 4 -∗ owns (c : Thread nD τ) (Memref.whole cc0_scratch4) fullShare (I c).wo -∗ some' c (sSlot 1 2) -∗ (∀ (v426 : BitVec 32) (v443 : BitVec 32), Sent (pieces I) K 4 c -∗ owesN c 5 -∗ owns (c : Thread nD τ) (Memref.whole cc0_scratch4) fullShare (I c).wo -∗ owns (c : Thread nD τ) (sSlot 1 2) fullShare (pt I 1 2 0 c) -∗ wpc c (k ⟨v426, pt I 1 2 0 c, v443⟩) Q)
        -∗ wpc (α := α) c ((atBufs (k0_part12 (F := F)) c v2 ((I c).v401) (pt I 1 1 0 c)).bind k) Q) := by
  simp only [k0_part12_eq_skeleton]
  unfold k0_part12_skel
  simp only [Prog.lift, Prog.bind_op, Prog.bind_ret, Prog.pure_eq_ret]
  iintro HS11 HE4 Hn Hwo HS12 Hk
  iapply (store_any c _ _ (fun _ => rfl) (pt I 1 1 0 c) (Eq.refl (pt I 1 1 0 c))) $$ [HS11]
  · iexact HS11
  iintro HS11
  iapply (send_step (pieces I) K 4 c _ (dev8_eq c)) $$ [HE4 HS11 Hn]
  · isplitl [HE4]; · iexact HE4
    isplitl [HS11]; · iexact HS11
    iexact Hn
  iintro ⟨HE4, Hn⟩
  iapply (load_part c _ _ _) $$ [Hwo]
  · iexact Hwo
  iintro Hwo
  iapply (load_any c _ _ (fun _ => rfl)) $$ [HS12]
  · iexact HS12
  iintro %_ HS12
  iapply (store_any c _ _ (fun _ => rfl) (pt I 1 2 0 c) ((I c).stored12)) $$ [HS12]
  · iexact HS12
  iintro HS12
  iapply Hk $$ [HE4] [Hn] [Hwo] [HS12]
  · iexact HE4
  · iexact Hn
  · iexact Hwo
  · iexact HS12

end Cert.Exchange

end
-- ==== Proof.PartsRounds.lean ====
/-
The parts of the program that run the rounds of the exchange: what each needs, returns and leaves.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Dev nD → Inp F) (K : Dev nD × CI → ℕ)

theorem part13 (c : Dev nD) (v2 : BitVec 32) (v210 : BitVec 32) {α : Type} {Q : α → sProp 𝕄} {k : Rest F ((Σ' (v467 : FVec F S128x384 .bf16), BitVec 32)) α} :
    ⊢ iprop(levAts L lv -∗ Idle (pieces I) K 5 c -∗ owns (c : Thread nD τ) (sSlot 1 2) fullShare (pt I 1 2 0 c) -∗ owesN c 5 -∗ Sent (pieces I) K 0 c -∗ (∀ (v471 : BitVec 32), Sent (pieces I) K 5 c -∗ owesN c 6 -∗ Done (pieces I) 0 c -∗ owns (c : Thread nD τ) (sSlot 0 0) fullShare (pt I 0 0 1 c) -∗ wpc c (k ⟨pt I 0 0 1 c, v471⟩) Q)
        -∗ wpc (α := α) c ((atBufs (k0_part13 (F := F)) c v2 (pt I 0 0 0 c) v210).bind k) Q) := by
  simp only [k0_part13_eq_skeleton]
  unfold k0_part13_skel
  simp only [Prog.lift, Prog.bind_op, Prog.bind_ret, Prog.pure_eq_ret]
  iintro #Hlev HE5 HS12 Hn HE0 Hk
  iapply (send_step (pieces I) K 5 c _ (dev9_eq c)) $$ [HE5 HS12 Hn]
  · isplitl [HE5]; · iexact HE5
    isplitl [HS12]; · iexact HS12
    iexact Hn
  iintro ⟨HE5, Hn⟩
  iapply (wait_send_step (pieces I) K 0 c 6) $$ [HE0 Hn]
  · isplitr; · iexact Hlev
    isplitl [HE0]; · iexact HE0
    iexact Hn
  iintro ⟨HE0, HS00, Hn⟩
  iapply (wait_recv_step (pieces I) K 0 c 6 (by decide)) $$ [HE0 Hn]
  · isplitr; · iexact Hlev
    isplitl [HE0]; · iexact HE0
    iexact Hn
  iintro ⟨HE0, Hn⟩
  icases HE0 with ⟨Hz, Hz', Hr⟩
  iapply (merge_step c _ _ (fun _ => rfl) squeezes_S1x128x384_S128x384 _ _ (fun _ => rfl) (sent (pieces I) 0 (peer 0 c)) (pt I 0 0 1 c)
      (fun y hy => (shapeCast_self _ _).trans (congrArg (addf (pt I 0 0 0 c)) hy))) $$ [Hr HS00]
  · isplitl [Hr]; · iexact Hr
    iexact HS00
  iintro %y %hy Hr HS00
  ihave HE0 := (show iprop(_ ∗ _ ∗ _) ⊢ Done (pieces I) 0 c from BI.Entails.refl _) $$ [Hz Hz' Hr]
  · isplitl [Hz]; · iexact Hz
    isplitl [Hz']; · iexact Hz'
    iexact Hr
  rw [show k0_pay50 (pt I 0 0 0 c) y = pt I 0 0 1 c from congrArg (addf (pt I 0 0 0 c)) hy]
  iapply Hk $$ [HE5] [Hn] [HE0] [HS00]
  · iexact HE5
  · iexact Hn
  · iexact HE0
  · iexact HS00

theorem part14 (c : Dev nD) (v227 : BitVec 32) (v471 : BitVec 32) {α : Type} {Q : α → sProp 𝕄} {k : Rest F (PUnit) α} :
    ⊢ iprop(levAts L lv -∗ Idle (pieces I) K 6 c -∗ owns (c : Thread nD τ) (sSlot 0 0) fullShare (pt I 0 0 1 c) -∗ owesN c 6 -∗ Sent (pieces I) K 1 c -∗ (Sent (pieces I) K 6 c -∗ owesN c 7 -∗ Done (pieces I) 1 c -∗ some' c (sSlot 0 1) -∗ wpc c (k ⟨⟩) Q)
        -∗ wpc (α := α) c ((atBufs (k0_part14 (F := F)) c v227 v471).bind k) Q) := by
  simp only [k0_part14_eq_skeleton]
  unfold k0_part14_skel
  simp only [Prog.lift, Prog.bind_op, Prog.bind_ret, Prog.pure_eq_ret]
  iintro #Hlev HE6 HS00 Hn HE1 Hk
  iapply (send_step (pieces I) K 6 c _ (dev10_eq c)) $$ [HE6 HS00 Hn]
  · isplitl [HE6]; · iexact HE6
    isplitl [HS00]; · iexact HS00
    iexact Hn
  iintro ⟨HE6, Hn⟩
  iapply (wait_send_step (pieces I) K 1 c 7) $$ [HE1 Hn]
  · isplitr; · iexact Hlev
    isplitl [HE1]; · iexact HE1
    iexact Hn
  iintro ⟨HE1, HS01, Hn⟩
  iapply (wait_recv_step (pieces I) K 1 c 7 (by decide)) $$ [HE1 Hn]
  · isplitr; · iexact Hlev
    isplitl [HE1]; · iexact HE1
    iexact Hn
  iintro ⟨HE1, Hn⟩
  iapply Hk $$ [HE6] [Hn] [HE1] [HS01]
  · iexact HE6
  · iexact Hn
  · iexact HE1
  · iexact HS01

theorem part15 (c : Dev nD) (v2 : BitVec 32) {α : Type} {Q : α → sProp 𝕄} {k : Rest F ((Σ' (v495 : FVec F S128x384 .bf16), BitVec 32)) α} :
    ⊢ iprop(levAts L lv -∗ Done (pieces I) 1 c -∗ some' c (sSlot 0 1) -∗ Idle (pieces I) K 7 c -∗ owesN c 7 -∗ Sent (pieces I) K 2 c -∗ (∀ (v499 : BitVec 32), Done (pieces I) 1 c -∗ Sent (pieces I) K 7 c -∗ owesN c 8 -∗ Half (pieces I) K 2 c -∗ some' c (sSlot 0 2) -∗ wpc c (k ⟨pt I 0 1 1 c, v499⟩) Q)
        -∗ wpc (α := α) c ((atBufs (k0_part15 (F := F)) c v2 (pt I 0 1 0 c)).bind k) Q) := by
  simp only [k0_part15_eq_skeleton]
  unfold k0_part15_skel
  simp only [Prog.lift, Prog.bind_op, Prog.bind_ret, Prog.pure_eq_ret]
  iintro #Hlev HE1 HS01 HE7 Hn HE2 Hk
  icases HE1 with ⟨Hz, Hz', Hr⟩
  iapply (merge_step c _ _ (fun _ => rfl) squeezes_S1x128x384_S128x384 _ _ (fun _ => rfl) (sent (pieces I) 1 (peer 1 c)) (pt I 0 1 1 c)
      (fun y hy => (shapeCast_self _ _).trans (congrArg (addf (pt I 0 1 0 c)) hy))) $$ [Hr HS01]
  · isplitl [Hr]; · iexact Hr
    iexact HS01
  iintro %y %hy Hr HS01
  ihave HE1 := (show iprop(_ ∗ _ ∗ _) ⊢ Done (pieces I) 1 c from BI.Entails.refl _) $$ [Hz Hz' Hr]
  · isplitl [Hz]; · iexact Hz
    isplitl [Hz']; · iexact Hz'
    iexact Hr
  iapply (send_step (pieces I) K 7 c _ (dev11_eq c)) $$ [HE7 HS01 Hn]
  · isplitl [HE7]; · iexact HE7
    isplitl [HS01]; · iexact HS01
    iexact Hn
  iintro ⟨HE7, Hn⟩
  iapply (wait_send_step (pieces I) K 2 c 8) $$ [HE2 Hn]
  · isplitr; · iexact Hlev
    isplitl [HE2]; · iexact HE2
    iexact Hn
  iintro ⟨HE2, HS02, Hn⟩
  rw [show k0_pay52 (pt I 0 1 0 c) y = pt I 0 1 1 c from congrArg (addf (pt I 0 1 0 c)) hy]
  iapply Hk $$ [HE1] [HE7] [Hn] [HE2] [HS02]
  · iexact HE1
  · iexact HE7
  · iexact Hn
  · iexact HE2
  · iexact HS02

theorem part16 (c : Dev nD) (v2 : BitVec 32) (v244 : BitVec 32) {α : Type} {Q : α → sProp 𝕄} {k : Rest F ((Σ' (v523 : FVec F S128x256 .bf16), BitVec 32)) α} :
    ⊢ iprop(levAts L lv -∗ Half (pieces I) K 2 c -∗ owesN c 8 -∗ some' c (sSlot 0 2) -∗ Idle (pieces I) K 8 c -∗ (∀ (v527 : BitVec 32), Done (pieces I) 2 c -∗ owesN c 9 -∗ Sent (pieces I) K 8 c -∗ wpc c (k ⟨pt I 0 2 1 c, v527⟩) Q)
        -∗ wpc (α := α) c ((atBufs (k0_part16 (F := F)) c v2 (pt I 0 2 0 c) v244).bind k) Q) := by
  simp only [k0_part16_eq_skeleton]
  unfold k0_part16_skel
  simp only [Prog.lift, Prog.bind_op, Prog.bind_ret, Prog.pure_eq_ret]
  iintro #Hlev HE2 Hn HS02 HE8 Hk
  iapply (wait_recv_step (pieces I) K 2 c 8 (by decide)) $$ [HE2 Hn]
  · isplitr; · iexact Hlev
    isplitl [HE2]; · iexact HE2
    iexact Hn
  iintro ⟨HE2, Hn⟩
  icases HE2 with ⟨Hz, Hz', Hr⟩
  iapply (merge_step c _ _ (fun _ => rfl) squeezes_S1x128x256_S128x256 _ _ (fun _ => rfl) (sent (pieces I) 2 (peer 2 c)) (pt I 0 2 1 c)
      (fun y hy => (shapeCast_self _ _).trans (congrArg (addf (pt I 0 2 0 c)) hy))) $$ [Hr HS02]
  · isplitl [Hr]; · iexact Hr
    iexact HS02
  iintro %y %hy Hr HS02
  ihave HE2 := (show iprop(_ ∗ _ ∗ _) ⊢ Done (pieces I) 2 c from BI.Entails.refl _) $$ [Hz Hz' Hr]
  · isplitl [Hz]; · iexact Hz
    isplitl [Hz']; · iexact Hz'
    iexact Hr
  iapply (send_step (pieces I) K 8 c _ (dev12_eq c)) $$ [HE8 HS02 Hn]
  · isplitl [HE8]; · iexact HE8
    isplitl [HS02]; · iexact HS02
    iexact Hn
  iintro ⟨HE8, Hn⟩
  rw [show k0_pay54 (pt I 0 2 0 c) y = pt I 0 2 1 c from congrArg (addf (pt I 0 2 0 c)) hy]
  iapply Hk $$ [HE2] [Hn] [HE8]
  · iexact HE2
  · iexact Hn
  · iexact HE8

theorem part17 (c : Dev nD) (v2 : BitVec 32) (v409 : BitVec 32) {α : Type} {Q : α → sProp 𝕄} {k : Rest F ((Σ' (v551 : FVec F S128x384 .bf16), BitVec 32)) α} :
    ⊢ iprop(levAts L lv -∗ Sent (pieces I) K 3 c -∗ owesN c 9 -∗ (∀ (v555 : BitVec 32), Done (pieces I) 3 c -∗ owesN c 9 -∗ owns (c : Thread nD τ) (sSlot 1 0) fullShare (pt I 1 0 1 c) -∗ wpc c (k ⟨pt I 1 0 1 c, v555⟩) Q)
        -∗ wpc (α := α) c ((atBufs (k0_part17 (F := F)) v2 (pt I 1 0 0 c) v409).bind k) Q) := by
  simp only [k0_part17_eq_skeleton]
  unfold k0_part17_skel
  simp only [Prog.lift, Prog.bind_op, Prog.bind_ret, Prog.pure_eq_ret]
  iintro #Hlev HE3 Hn Hk
  iapply (wait_send_step (pieces I) K 3 c 9) $$ [HE3 Hn]
  · isplitr; · iexact Hlev
    isplitl [HE3]; · iexact HE3
    iexact Hn
  iintro ⟨HE3, HS10, Hn⟩
  iapply (wait_recv_step (pieces I) K 3 c 9 (by decide)) $$ [HE3 Hn]
  · isplitr; · iexact Hlev
    isplitl [HE3]; · iexact HE3
    iexact Hn
  iintro ⟨HE3, Hn⟩
  icases HE3 with ⟨Hz, Hz', Hr⟩
  iapply (merge_step c _ _ (fun _ => rfl) squeezes_S1x128x384_S128x384 _ _ (fun _ => rfl) (sent (pieces I) 3 (peer 3 c)) (pt I 1 0 1 c)
      (fun y hy => (shapeCast_self _ _).trans (congrArg (addf (pt I 1 0 0 c)) hy))) $$ [Hr HS10]
  · isplitl [Hr]; · iexact Hr
    iexact HS10
  iintro %y %hy Hr HS10
  ihave HE3 := (show iprop(_ ∗ _ ∗ _) ⊢ Done (pieces I) 3 c from BI.Entails.refl _) $$ [Hz Hz' Hr]
  · isplitl [Hz]; · iexact Hz
    isplitl [Hz']; · iexact Hz'
    iexact Hr
  rw [show k0_pay56 (pt I 1 0 0 c) y = pt I 1 0 1 c from congrArg (addf (pt I 1 0 0 c)) hy]
  iapply Hk $$ [HE3] [Hn] [HS10]
  · iexact HE3
  · iexact Hn
  · iexact HS10

theorem part18 (c : Dev nD) (v426 : BitVec 32) {α : Type} {Q : α → sProp 𝕄} {k : Rest F ((Σ' (v579 : FVec F S128x384 .bf16), BitVec 32)) α} :
    ⊢ iprop(levAts L lv -∗ Idle (pieces I) K 9 c -∗ owns (c : Thread nD τ) (sSlot 1 0) fullShare (pt I 1 0 1 c) -∗ owesN c 9 -∗ Sent (pieces I) K 4 c -∗ (∀ (c4_i32_437 : BitVec 32), Sent (pieces I) K 9 c -∗ owesN c 10 -∗ Done (pieces I) 4 c -∗ owns (c : Thread nD τ) (sSlot 1 1) fullShare (pt I 1 1 1 c) -∗ wpc c (k ⟨pt I 1 1 1 c, c4_i32_437⟩) Q)
        -∗ wpc (α := α) c ((atBufs (k0_part18 (F := F)) c (pt I 1 1 0 c) v426).bind k) Q) := by
  simp only [k0_part18_eq_skeleton]
  unfold k0_part18_skel
  simp only [Prog.lift, Prog.bind_op, Prog.bind_ret, Prog.pure_eq_ret]
  iintro #Hlev HE9 HS10 Hn HE4 Hk
  iapply (send_step (pieces I) K 9 c _ (dev13_eq c)) $$ [HE9 HS10 Hn]
  · isplitl [HE9]; · iexact HE9
    isplitl [HS10]; · iexact HS10
    iexact Hn
  iintro ⟨HE9, Hn⟩
  iapply (wait_send_step (pieces I) K 4 c 10) $$ [HE4 Hn]
  · isplitr; · iexact Hlev
    isplitl [HE4]; · iexact HE4
    iexact Hn
  iintro ⟨HE4, HS11, Hn⟩
  iapply (wait_recv_step (pieces I) K 4 c 10 (by decide)) $$ [HE4 Hn]
  · isplitr; · iexact Hlev
    isplitl [HE4]; · iexact HE4
    iexact Hn
  iintro ⟨HE4, Hn⟩
  icases HE4 with ⟨Hz, Hz', Hr⟩
  iapply (merge_step c _ _ (fun _ => rfl) squeezes_S1x128x384_S128x384 _ _ (fun _ => rfl) (sent (pieces I) 4 (peer 4 c)) (pt I 1 1 1 c)
      (fun y hy => (shapeCast_self _ _).trans (congrArg (addf (pt I 1 1 0 c)) hy))) $$ [Hr HS11]
  · isplitl [Hr]; · iexact Hr
    iexact HS11
  iintro %y %hy Hr HS11
  ihave HE4 := (show iprop(_ ∗ _ ∗ _) ⊢ Done (pieces I) 4 c from BI.Entails.refl _) $$ [Hz Hz' Hr]
  · isplitl [Hz]; · iexact Hz
    isplitl [Hz']; · iexact Hz'
    iexact Hr
  rw [show k0_pay58 (pt I 1 1 0 c) y = pt I 1 1 1 c from congrArg (addf (pt I 1 1 0 c)) hy]
  iapply Hk $$ [HE9] [Hn] [HE4] [HS11]
  · iexact HE9
  · iexact Hn
  · iexact HE4
  · iexact HS11

theorem part19 (c : Dev nD) (v2 : BitVec 32) (v443 : BitVec 32) (c4_i32_437 : BitVec 32) {α : Type} {Q : α → sProp 𝕄} {k : Rest F ((BitVec 32)) α} :
    ⊢ iprop(levAts L lv -∗ Idle (pieces I) K 10 c -∗ owns (c : Thread nD τ) (sSlot 1 1) fullShare (pt I 1 1 1 c) -∗ owesN c 10 -∗ Sent (pieces I) K 5 c -∗ (∀ (v583 : BitVec 32), Sent (pieces I) K 10 c -∗ owesN c 11 -∗ Half (pieces I) K 5 c -∗ some' c (sSlot 1 2) -∗ wpc c (k v583) Q)
        -∗ wpc (α := α) c ((atBufs (k0_part19 (F := F)) c v2 v443 c4_i32_437).bind k) Q) := by
  simp only [k0_part19_eq_skeleton]
  unfold k0_part19_skel
  simp only [Prog.lift, Prog.bind_op, Prog.bind_ret, Prog.pure_eq_ret]
  iintro #Hlev HE10 HS11 Hn HE5 Hk
  iapply (send_step (pieces I) K 10 c _ (dev14_eq c)) $$ [HE10 HS11 Hn]
  · isplitl [HE10]; · iexact HE10
    isplitl [HS11]; · iexact HS11
    iexact Hn
  iintro ⟨HE10, Hn⟩
  iapply (wait_send_step (pieces I) K 5 c 11) $$ [HE5 Hn]
  · isplitr; · iexact Hlev
    isplitl [HE5]; · iexact HE5
    iexact Hn
  iintro ⟨HE5, HS12, Hn⟩
  iapply Hk $$ [HE10] [Hn] [HE5] [HS12]
  · iexact HE10
  · iexact Hn
  · iexact HE5
  · iexact HS12

theorem part20 (c : Dev nD) (v2 : BitVec 32) {α : Type} {Q : α → sProp 𝕄} {k : Rest F ((Σ' (v607 : FVec F S128x256 .bf16), BitVec 32)) α} :
    ⊢ iprop(levAts L lv -∗ Half (pieces I) K 5 c -∗ owesN c 11 -∗ some' c (sSlot 1 2) -∗ Idle (pieces I) K 11 c -∗ Sent (pieces I) K 6 c -∗ (∀ (v611 : BitVec 32), Done (pieces I) 5 c -∗ owesN c 12 -∗ Sent (pieces I) K 11 c -∗ Half (pieces I) K 6 c -∗ some' c (sSlot 0 0) -∗ wpc c (k ⟨pt I 1 2 1 c, v611⟩) Q)
        -∗ wpc (α := α) c ((atBufs (k0_part20 (F := F)) c v2 (pt I 1 2 0 c)).bind k) Q) := by
  simp only [k0_part20_eq_skeleton]
  unfold k0_part20_skel
  simp only [Prog.lift, Prog.bind_op, Prog.bind_ret, Prog.pure_eq_ret]
  iintro #Hlev HE5 Hn HS12 HE11 HE6 Hk
  iapply (wait_recv_step (pieces I) K 5 c 11 (by decide)) $$ [HE5 Hn]
  · isplitr; · iexact Hlev
    isplitl [HE5]; · iexact HE5
    iexact Hn
  iintro ⟨HE5, Hn⟩
  icases HE5 with ⟨Hz, Hz', Hr⟩
  iapply (merge_step c _ _ (fun _ => rfl) squeezes_S1x128x256_S128x256 _ _ (fun _ => rfl) (sent (pieces I) 5 (peer 5 c)) (pt I 1 2 1 c)
      (fun y hy => (shapeCast_self _ _).trans (congrArg (addf (pt I 1 2 0 c)) hy))) $$ [Hr HS12]
  · isplitl [Hr]; · iexact Hr
    iexact HS12
  iintro %y %hy Hr HS12
  ihave HE5 := (show iprop(_ ∗ _ ∗ _) ⊢ Done (pieces I) 5 c from BI.Entails.refl _) $$ [Hz Hz' Hr]
  · isplitl [Hz]; · iexact Hz
    isplitl [Hz']; · iexact Hz'
    iexact Hr
  iapply (send_step (pieces I) K 11 c _ (dev15_eq c)) $$ [HE11 HS12 Hn]
  · isplitl [HE11]; · iexact HE11
    isplitl [HS12]; · iexact HS12
    iexact Hn
  iintro ⟨HE11, Hn⟩
  iapply (wait_send_step (pieces I) K 6 c 12) $$ [HE6 Hn]
  · isplitr; · iexact Hlev
    isplitl [HE6]; · iexact HE6
    iexact Hn
  iintro ⟨HE6, HS00, Hn⟩
  rw [show k0_pay60 (pt I 1 2 0 c) y = pt I 1 2 1 c from congrArg (addf (pt I 1 2 0 c)) hy]
  iapply Hk $$ [HE5] [Hn] [HE11] [HE6] [HS00]
  · iexact HE5
  · iexact Hn
  · iexact HE11
  · iexact HE6
  · iexact HS00

theorem part21 (c : Dev nD) (v2 : BitVec 32) (v471 : BitVec 32) {α : Type} {Q : α → sProp 𝕄} {k : Rest F ((Σ' (v635 : FVec F S128x384 .bf16), BitVec 32)) α} :
    ⊢ iprop(levAts L lv -∗ Half (pieces I) K 6 c -∗ owesN c 12 -∗ some' c (sSlot 0 0) -∗ Idle (pieces I) K 12 c -∗ (∀ (v639 : BitVec 32), Done (pieces I) 6 c -∗ owesN c 13 -∗ Sent (pieces I) K 12 c -∗ wpc c (k ⟨pt I 0 0 2 c, v639⟩) Q)
        -∗ wpc (α := α) c ((atBufs (k0_part21 (F := F)) c v2 (pt I 0 0 1 c) v471).bind k) Q) := by
  simp only [k0_part21_eq_skeleton]
  unfold k0_part21_skel
  simp only [Prog.lift, Prog.bind_op, Prog.bind_ret, Prog.pure_eq_ret]
  iintro #Hlev HE6 Hn HS00 HE12 Hk
  iapply (wait_recv_step (pieces I) K 6 c 12 (by decide)) $$ [HE6 Hn]
  · isplitr; · iexact Hlev
    isplitl [HE6]; · iexact HE6
    iexact Hn
  iintro ⟨HE6, Hn⟩
  icases HE6 with ⟨Hz, Hz', Hr⟩
  iapply (merge_step c _ _ (fun _ => rfl) squeezes_S1x128x384_S128x384 _ _ (fun _ => rfl) (sent (pieces I) 6 (peer 6 c)) (pt I 0 0 2 c)
      (fun y hy => (shapeCast_self _ _).trans (congrArg (addf (pt I 0 0 1 c)) hy))) $$ [Hr HS00]
  · isplitl [Hr]; · iexact Hr
    iexact HS00
  iintro %y %hy Hr HS00
  ihave HE6 := (show iprop(_ ∗ _ ∗ _) ⊢ Done (pieces I) 6 c from BI.Entails.refl _) $$ [Hz Hz' Hr]
  · isplitl [Hz]; · iexact Hz
    isplitl [Hz']; · iexact Hz'
    iexact Hr
  iapply (send_step (pieces I) K 12 c _ (dev16_eq c)) $$ [HE12 HS00 Hn]
  · isplitl [HE12]; · iexact HE12
    isplitl [HS00]; · iexact HS00
    iexact Hn
  iintro ⟨HE12, Hn⟩
  rw [show k0_pay62 (pt I 0 0 1 c) y = pt I 0 0 2 c from congrArg (addf (pt I 0 0 1 c)) hy]
  iapply Hk $$ [HE6] [Hn] [HE12]
  · iexact HE6
  · iexact Hn
  · iexact HE12

theorem part22 (c : Dev nD) (v2 : BitVec 32) (v499 : BitVec 32) {α : Type} {Q : α → sProp 𝕄} {k : Rest F ((Σ' (v663 : FVec F S128x384 .bf16), BitVec 32)) α} :
    ⊢ iprop(levAts L lv -∗ Sent (pieces I) K 7 c -∗ owesN c 13 -∗ (∀ (v667 : BitVec 32), Done (pieces I) 7 c -∗ owesN c 13 -∗ owns (c : Thread nD τ) (sSlot 0 1) fullShare (pt I 0 1 2 c) -∗ wpc c (k ⟨pt I 0 1 2 c, v667⟩) Q)
        -∗ wpc (α := α) c ((atBufs (k0_part22 (F := F)) v2 (pt I 0 1 1 c) v499).bind k) Q) := by
  simp only [k0_part22_eq_skeleton]
  unfold k0_part22_skel
  simp only [Prog.lift, Prog.bind_op, Prog.bind_ret, Prog.pure_eq_ret]
  iintro #Hlev HE7 Hn Hk
  iapply (wait_send_step (pieces I) K 7 c 13) $$ [HE7 Hn]
  · isplitr; · iexact Hlev
    isplitl [HE7]; · iexact HE7
    iexact Hn
  iintro ⟨HE7, HS01, Hn⟩
  iapply (wait_recv_step (pieces I) K 7 c 13 (by decide)) $$ [HE7 Hn]
  · isplitr; · iexact Hlev
    isplitl [HE7]; · iexact HE7
    iexact Hn
  iintro ⟨HE7, Hn⟩
  icases HE7 with ⟨Hz, Hz', Hr⟩
  iapply (merge_step c _ _ (fun _ => rfl) squeezes_S1x128x384_S128x384 _ _ (fun _ => rfl) (sent (pieces I) 7 (peer 7 c)) (pt I 0 1 2 c)
      (fun y hy => (shapeCast_self _ _).trans (congrArg (addf (pt I 0 1 1 c)) hy))) $$ [Hr HS01]
  · isplitl [Hr]; · iexact Hr
    iexact HS01
  iintro %y %hy Hr HS01
  ihave HE7 := (show iprop(_ ∗ _ ∗ _) ⊢ Done (pieces I) 7 c from BI.Entails.refl _) $$ [Hz Hz' Hr]
  · isplitl [Hz]; · iexact Hz
    isplitl [Hz']; · iexact Hz'
    iexact Hr
  rw [show k0_pay64 (pt I 0 1 1 c) y = pt I 0 1 2 c from congrArg (addf (pt I 0 1 1 c)) hy]
  iapply Hk $$ [HE7] [Hn] [HS01]
  · iexact HE7
  · iexact Hn
  · iexact HS01

theorem part23 (c : Dev nD) (v527 : BitVec 32) {α : Type} {Q : α → sProp 𝕄} {k : Rest F ((Σ' (v691 : FVec F S128x256 .bf16), Vec F S128x256 .bf16)) α} :
    ⊢ iprop(levAts L lv -∗ Idle (pieces I) K 13 c -∗ owns (c : Thread nD τ) (sSlot 0 1) fullShare (pt I 0 1 2 c) -∗ owesN c 13 -∗ Sent (pieces I) K 8 c -∗ (∀ (v692 : Vec F S128x256 .bf16), Sent (pieces I) K 13 c -∗ owesN c 14 -∗ Done (pieces I) 8 c -∗ some' c (sSlot 0 2) -∗ wpc c (k ⟨pt I 0 2 2 c, v692⟩) Q)
        -∗ wpc (α := α) c ((atBufs (k0_part23 (F := F)) c (pt I 0 2 1 c) v527).bind k) Q) := by
  simp only [k0_part23_eq_skeleton]
  unfold k0_part23_skel
  simp only [Prog.lift, Prog.bind_op, Prog.bind_ret, Prog.pure_eq_ret]
  iintro #Hlev HE13 HS01 Hn HE8 Hk
  iapply (send_step (pieces I) K 13 c _ (dev17_eq c)) $$ [HE13 HS01 Hn]
  · isplitl [HE13]; · iexact HE13
    isplitl [HS01]; · iexact HS01
    iexact Hn
  iintro ⟨HE13, Hn⟩
  iapply (wait_send_step (pieces I) K 8 c 14) $$ [HE8 Hn]
  · isplitr; · iexact Hlev
    isplitl [HE8]; · iexact HE8
    iexact Hn
  iintro ⟨HE8, HS02, Hn⟩
  iapply (wait_recv_step (pieces I) K 8 c 14 (by decide)) $$ [HE8 Hn]
  · isplitr; · iexact Hlev
    isplitl [HE8]; · iexact HE8
    iexact Hn
  iintro ⟨HE8, Hn⟩
  icases HE8 with ⟨Hz, Hz', Hr⟩
  iapply (load_squeezed c _ _ (fun _ => rfl) squeezes_S1x128x256_S128x256 (sent (pieces I) 8 (peer 8 c))) $$ [Hr]
  · iexact Hr
  iintro %y %hy Hr
  ihave HE8 := (show iprop(_ ∗ _ ∗ _) ⊢ Done (pieces I) 8 c from BI.Entails.refl _) $$ [Hz Hz' Hr]
  · isplitl [Hz]; · iexact Hz
    isplitl [Hz']; · iexact Hz'
    iexact Hr
  iapply (load_any c _ _ (fun _ => rfl)) $$ [HS02]
  · iexact HS02
  iintro %_ HS02
  rw [show k0_pay66 (pt I 0 2 1 c) y = pt I 0 2 2 c from congrArg (addf (pt I 0 2 1 c)) hy]
  iapply Hk $$ [HE13] [Hn] [HE8] [HS02]
  · iexact HE13
  · iexact Hn
  · iexact HE8
  · iexact HS02

theorem part24 (c : Dev nD) (v2 : BitVec 32) (v555 : BitVec 32) (v692 : Vec F S128x256 .bf16) {α : Type} {Q : α → sProp 𝕄} {k : Rest F ((BitVec 32)) α} :
    ⊢ iprop(levAts L lv -∗ some' c (sSlot 0 2) -∗ Idle (pieces I) K 14 c -∗ owesN c 14 -∗ Sent (pieces I) K 9 c -∗ (∀ (v695 : BitVec 32), Sent (pieces I) K 14 c -∗ owesN c 15 -∗ Half (pieces I) K 9 c -∗ some' c (sSlot 1 0) -∗ wpc c (k v695) Q)
        -∗ wpc (α := α) c ((atBufs (k0_part24 (F := F)) c v2 v555 (pt I 0 2 2 c) v692).bind k) Q) := by
  simp only [k0_part24_eq_skeleton]
  unfold k0_part24_skel
  simp only [Prog.lift, Prog.bind_op, Prog.bind_ret, Prog.pure_eq_ret]
  iintro #Hlev HS02 HE14 Hn HE9 Hk
  iapply (store_any c _ _ (fun _ => rfl) (pt I 0 2 2 c) (shapeCast_self (pt I 0 2 2 c) _)) $$ [HS02]
  · iexact HS02
  iintro HS02
  iapply (send_step (pieces I) K 14 c _ (dev18_eq c)) $$ [HE14 HS02 Hn]
  · isplitl [HE14]; · iexact HE14
    isplitl [HS02]; · iexact HS02
    iexact Hn
  iintro ⟨HE14, Hn⟩
  iapply (wait_send_step (pieces I) K 9 c 15) $$ [HE9 Hn]
  · isplitr; · iexact Hlev
    isplitl [HE9]; · iexact HE9
    iexact Hn
  iintro ⟨HE9, HS10, Hn⟩
  iapply Hk $$ [HE14] [Hn] [HE9] [HS10]
  · iexact HE14
  · iexact Hn
  · iexact HE9
  · iexact HS10

theorem part25 (c : Dev nD) (v2 : BitVec 32) {α : Type} {Q : α → sProp 𝕄} {k : Rest F ((Σ' (v719 : FVec F S128x384 .bf16), BitVec 32)) α} :
    ⊢ iprop(levAts L lv -∗ Half (pieces I) K 9 c -∗ owesN c 15 -∗ some' c (sSlot 1 0) -∗ Idle (pieces I) K 15 c -∗ (∀ (v723 : BitVec 32), Done (pieces I) 9 c -∗ owesN c 16 -∗ Sent (pieces I) K 15 c -∗ wpc c (k ⟨pt I 1 0 2 c, v723⟩) Q)
        -∗ wpc (α := α) c ((atBufs (k0_part25 (F := F)) c v2 (pt I 1 0 1 c)).bind k) Q) := by
  simp only [k0_part25_eq_skeleton]
  unfold k0_part25_skel
  simp only [Prog.lift, Prog.bind_op, Prog.bind_ret, Prog.pure_eq_ret]
  iintro #Hlev HE9 Hn HS10 HE15 Hk
  iapply (wait_recv_step (pieces I) K 9 c 15 (by decide)) $$ [HE9 Hn]
  · isplitr; · iexact Hlev
    isplitl [HE9]; · iexact HE9
    iexact Hn
  iintro ⟨HE9, Hn⟩
  icases HE9 with ⟨Hz, Hz', Hr⟩
  iapply (merge_step c _ _ (fun _ => rfl) squeezes_S1x128x384_S128x384 _ _ (fun _ => rfl) (sent (pieces I) 9 (peer 9 c)) (pt I 1 0 2 c)
      (fun y hy => (shapeCast_self _ _).trans (congrArg (addf (pt I 1 0 1 c)) hy))) $$ [Hr HS10]
  · isplitl [Hr]; · iexact Hr
    iexact HS10
  iintro %y %hy Hr HS10
  ihave HE9 := (show iprop(_ ∗ _ ∗ _) ⊢ Done (pieces I) 9 c from BI.Entails.refl _) $$ [Hz Hz' Hr]
  · isplitl [Hz]; · iexact Hz
    isplitl [Hz']; · iexact Hz'
    iexact Hr
  iapply (send_step (pieces I) K 15 c _ (dev19_eq c)) $$ [HE15 HS10 Hn]
  · isplitl [HE15]; · iexact HE15
    isplitl [HS10]; · iexact HS10
    iexact Hn
  iintro ⟨HE15, Hn⟩
  rw [show k0_pay68 (pt I 1 0 1 c) y = pt I 1 0 2 c from congrArg (addf (pt I 1 0 1 c)) hy]
  iapply Hk $$ [HE9] [Hn] [HE15]
  · iexact HE9
  · iexact Hn
  · iexact HE15

theorem part26 (c : Dev nD) (v2 : BitVec 32) (v583 : BitVec 32) {α : Type} {Q : α → sProp 𝕄} {k : Rest F ((Σ' (v747 : FVec F S128x384 .bf16), BitVec 32)) α} :
    ⊢ iprop(levAts L lv -∗ Sent (pieces I) K 10 c -∗ owesN c 16 -∗ Idle (pieces I) K 16 c -∗ (∀ (v751 : BitVec 32), Done (pieces I) 10 c -∗ owesN c 17 -∗ Sent (pieces I) K 16 c -∗ wpc c (k ⟨pt I 1 1 2 c, v751⟩) Q)
        -∗ wpc (α := α) c ((atBufs (k0_part26 (F := F)) c v2 (pt I 1 1 1 c) v583).bind k) Q) := by
  simp only [k0_part26_eq_skeleton]
  unfold k0_part26_skel
  simp only [Prog.lift, Prog.bind_op, Prog.bind_ret, Prog.pure_eq_ret]
  iintro #Hlev HE10 Hn HE16 Hk
  iapply (wait_send_step (pieces I) K 10 c 16) $$ [HE10 Hn]
  · isplitr; · iexact Hlev
    isplitl [HE10]; · iexact HE10
    iexact Hn
  iintro ⟨HE10, HS11, Hn⟩
  iapply (wait_recv_step (pieces I) K 10 c 16 (by decide)) $$ [HE10 Hn]
  · isplitr; · iexact Hlev
    isplitl [HE10]; · iexact HE10
    iexact Hn
  iintro ⟨HE10, Hn⟩
  icases HE10 with ⟨Hz, Hz', Hr⟩
  iapply (merge_step c _ _ (fun _ => rfl) squeezes_S1x128x384_S128x384 _ _ (fun _ => rfl) (sent (pieces I) 10 (peer 10 c)) (pt I 1 1 2 c)
      (fun y hy => (shapeCast_self _ _).trans (congrArg (addf (pt I 1 1 1 c)) hy))) $$ [Hr HS11]
  · isplitl [Hr]; · iexact Hr
    iexact HS11
  iintro %y %hy Hr HS11
  ihave HE10 := (show iprop(_ ∗ _ ∗ _) ⊢ Done (pieces I) 10 c from BI.Entails.refl _) $$ [Hz Hz' Hr]
  · isplitl [Hz]; · iexact Hz
    isplitl [Hz']; · iexact Hz'
    iexact Hr
  iapply (send_step (pieces I) K 16 c _ (dev20_eq c)) $$ [HE16 HS11 Hn]
  · isplitl [HE16]; · iexact HE16
    isplitl [HS11]; · iexact HS11
    iexact Hn
  iintro ⟨HE16, Hn⟩
  rw [show k0_pay70 (pt I 1 1 1 c) y = pt I 1 1 2 c from congrArg (addf (pt I 1 1 1 c)) hy]
  iapply Hk $$ [HE10] [Hn] [HE16]
  · iexact HE10
  · iexact Hn
  · iexact HE16

theorem part27 (c : Dev nD) (v2 : BitVec 32) (v611 : BitVec 32) {α : Type} {Q : α → sProp 𝕄} {k : Rest F ((Σ' (v775 : FVec F S128x256 .bf16), BitVec 32)) α} :
    ⊢ iprop(levAts L lv -∗ Sent (pieces I) K 11 c -∗ owesN c 17 -∗ (∀ (v779 : BitVec 32), Done (pieces I) 11 c -∗ owesN c 17 -∗ owns (c : Thread nD τ) (sSlot 1 2) fullShare (pt I 1 2 2 c) -∗ wpc c (k ⟨pt I 1 2 2 c, v779⟩) Q)
        -∗ wpc (α := α) c ((atBufs (k0_part27 (F := F)) v2 (pt I 1 2 1 c) v611).bind k) Q) := by
  simp only [k0_part27_eq_skeleton]
  unfold k0_part27_skel
  simp only [Prog.lift, Prog.bind_op, Prog.bind_ret, Prog.pure_eq_ret]
  iintro #Hlev HE11 Hn Hk
  iapply (wait_send_step (pieces I) K 11 c 17) $$ [HE11 Hn]
  · isplitr; · iexact Hlev
    isplitl [HE11]; · iexact HE11
    iexact Hn
  iintro ⟨HE11, HS12, Hn⟩
  iapply (wait_recv_step (pieces I) K 11 c 17 (by decide)) $$ [HE11 Hn]
  · isplitr; · iexact Hlev
    isplitl [HE11]; · iexact HE11
    iexact Hn
  iintro ⟨HE11, Hn⟩
  icases HE11 with ⟨Hz, Hz', Hr⟩
  iapply (merge_step c _ _ (fun _ => rfl) squeezes_S1x128x256_S128x256 _ _ (fun _ => rfl) (sent (pieces I) 11 (peer 11 c)) (pt I 1 2 2 c)
      (fun y hy => (shapeCast_self _ _).trans (congrArg (addf (pt I 1 2 1 c)) hy))) $$ [Hr HS12]
  · isplitl [Hr]; · iexact Hr
    iexact HS12
  iintro %y %hy Hr HS12
  ihave HE11 := (show iprop(_ ∗ _ ∗ _) ⊢ Done (pieces I) 11 c from BI.Entails.refl _) $$ [Hz Hz' Hr]
  · isplitl [Hz]; · iexact Hz
    isplitl [Hz']; · iexact Hz'
    iexact Hr
  rw [show k0_pay72 (pt I 1 2 1 c) y = pt I 1 2 2 c from congrArg (addf (pt I 1 2 1 c)) hy]
  iapply Hk $$ [HE11] [Hn] [HS12]
  · iexact HE11
  · iexact Hn
  · iexact HS12

end Cert.Exchange

end
-- ==== Proof.Rows.lean ====
/-
The rows of a device's result, put together from their pieces.
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The result of a device -/

theorem row_lt (j : S256x1024.Idx) : (j 0).val / 128 < 2 := by have : (j 0).val < 256 := (j 0).isLt; omega

/-- The index of a piece's element by its row and column. -/
def ix384 (i k : ℕ) (hi : i < 128) (hk : k < 384) : S128x384.Idx := Fin.cons ⟨i, hi⟩ (Fin.cons ⟨k, hk⟩ finZeroElim)
def ix256 (i k : ℕ) (hi : i < 128) (hk : k < 256) : S128x256.Idx := Fin.cons ⟨i, hi⟩ (Fin.cons ⟨k, hk⟩ finZeroElim)

/-- What device `c` ends up with: at each row and column the value of the piece that lies there. -/
def outAll (I : Dev nD → Inp F) (c : Dev nD) : Vec F S256x1024 .f32 := fun j =>
  if h0 : (j 1).val < 384 then outP I ⟨(j 0).val / 128, row_lt j⟩ 0 c (ix384 ((j 0).val % 128) (j 1).val (Nat.mod_lt _ (by decide)) h0)
  else if h1 : (j 1).val < 768 then outP I ⟨(j 0).val / 128, row_lt j⟩ 1 c (ix384 ((j 0).val % 128) ((j 1).val - 384) (Nat.mod_lt _ (by decide)) (by omega))
  else outP I ⟨(j 0).val / 128, row_lt j⟩ 2 c (ix256 ((j 0).val % 128) ((j 1).val - 768) (Nat.mod_lt _ (by decide))
    (by have : (j 1).val < 1024 := (j 1).isLt; omega))

theorem outP_congr (I : Dev nD → Inp F) (c : Dev nD) (p : Fin 3) {rb rb' : Fin 2} {j j' : (sP p).Idx} (h : rb = rb') (hj : j = j') :
    outP I rb p c j = outP I rb' p c j' := by subst h; subst hj; rfl

/-- The rows of row block `rb`. -/
def outRow (I : Dev nD → Inp F) (rb : Fin 2) (c : Dev nD) : Vec F S128x1024 .f32 := fun j => outAll I c ((rcO1024 rb).emb j)

/-- The rectangle of a piece in the result. -/
def pieceRect : Fin 2 × Fin 3 → Rect S256x1024
  | (rb, 0) => rcO384 rb 0
  | (rb, 1) => rcO384 rb 1
  | (rb, 2) => rcO256 rb

theorem pieceRect_stride (t : Fin 2 × Fin 3) (a) : (pieceRect t).stride a = 1 := by
  obtain ⟨rb, p⟩ := t; fin_cases p <;> rfl

theorem out_piece0 (I : Dev nD → Inp F) (rb : Fin 2) (c : Dev nD) : (fun j => outAll I c ((rcO384 rb 0).emb j)) = outP I rb 0 c := by
  funext j
  have h0 : ((rcO384 rb 0).emb j 0).val = rb.val * 128 + 1 * (j 0).val := rfl
  have h1 : ((rcO384 rb 0).emb j 1).val = 0 * 384 + 1 * (j 1).val := rfl
  have b0 : (j 0).val < 128 := (j 0).isLt
  have b1 : (j 1).val < 384 := (j 1).isLt
  unfold outAll
  rw [dif_pos (by omega)]
  refine outP_congr I c 0 (Fin.ext (by show _ / 128 = _; omega)) ?_
  funext a
  refine Fin.cases (Fin.ext (by show _ % 128 = _; omega)) (fun a => ?_) a
  obtain rfl : a = 0 := by omega
  exact Fin.ext (by show ((rcO384 rb 0).emb j 1).val = (j 1).val; omega)

theorem out_piece1 (I : Dev nD → Inp F) (rb : Fin 2) (c : Dev nD) : (fun j => outAll I c ((rcO384 rb 1).emb j)) = outP I rb 1 c := by
  funext j
  have h0 : ((rcO384 rb 1).emb j 0).val = rb.val * 128 + 1 * (j 0).val := rfl
  have h1 : ((rcO384 rb 1).emb j 1).val = 1 * 384 + 1 * (j 1).val := rfl
  have b0 : (j 0).val < 128 := (j 0).isLt
  have b1 : (j 1).val < 384 := (j 1).isLt
  unfold outAll
  rw [dif_neg (by omega), dif_pos (by omega)]
  refine outP_congr I c 1 (Fin.ext (by show _ / 128 = _; omega)) ?_
  funext a
  refine Fin.cases (Fin.ext (by show _ % 128 = _; omega)) (fun a => ?_) a
  obtain rfl : a = 0 := by omega
  exact Fin.ext (by show ((rcO384 rb 1).emb j 1).val - 384 = (j 1).val; omega)

theorem out_piece2 (I : Dev nD → Inp F) (rb : Fin 2) (c : Dev nD) : (fun j => outAll I c ((rcO256 rb).emb j)) = outP I rb 2 c := by
  funext j
  have h0 : ((rcO256 rb).emb j 0).val = rb.val * 128 + 1 * (j 0).val := rfl
  have h1 : ((rcO256 rb).emb j 1).val = 768 + 1 * (j 1).val := rfl
  have b0 : (j 0).val < 128 := (j 0).isLt
  unfold outAll
  rw [dif_neg (by omega), dif_neg (by omega)]
  refine outP_congr I c 2 (Fin.ext (by show _ / 128 = _; omega)) ?_
  funext a
  refine Fin.cases (Fin.ext (by show _ % 128 = _; omega)) (fun a => ?_) a
  obtain rfl : a = 0 := by omega
  exact Fin.ext (by show ((rcO256 rb).emb j 1).val - 768 = (j 1).val; omega)

/-! ## The rectangles -/

theorem mem_rc384 (rb p : Fin 2) (i : S256x1024.Idx) :
    i ∈ (rcO384 rb p).set ↔ (rb.val * 128 ≤ (i 0).val ∧ (i 0).val < rb.val * 128 + 128) ∧ p.val * 384 ≤ (i 1).val ∧ (i 1).val < p.val * 384 + 384 := by
  rw [Rect.mem_set_unit]; exact Fin.forall_fin_two

theorem mem_rc256 (rb : Fin 2) (i : S256x1024.Idx) :
    i ∈ (rcO256 rb).set ↔ (rb.val * 128 ≤ (i 0).val ∧ (i 0).val < rb.val * 128 + 128) ∧ 768 ≤ (i 1).val ∧ (i 1).val < 768 + 256 := by
  rw [Rect.mem_set_unit]; exact Fin.forall_fin_two

theorem mem_rc1024 (rb : Fin 2) (i : S256x1024.Idx) :
    i ∈ (rcO1024 rb).set ↔ (rb.val * 128 ≤ (i 0).val ∧ (i 0).val < rb.val * 128 + 128) ∧ 0 ≤ (i 1).val ∧ (i 1).val < 0 + 1024 := by
  rw [Rect.mem_set_unit]; exact Fin.forall_fin_two

/-- Where a piece lies, in numbers. -/
theorem mem_pieceRect (t : Fin 2 × Fin 3) (i : S256x1024.Idx) :
    i ∈ (pieceRect t).set ↔ (t.1.val * 128 ≤ (i 0).val ∧ (i 0).val < t.1.val * 128 + 128) ∧ t.2.val * 384 ≤ (i 1).val ∧ (i 1).val < t.2.val * 384 + 384 := by
  have b1 : (i 1).val < 1024 := (i 1).isLt
  obtain ⟨rb, p⟩ := t
  fin_cases p
  · exact mem_rc384 rb 0 i
  · exact mem_rc384 rb 1 i
  · refine (mem_rc256 rb i).trans ?_
    show _ ↔ (rb.val * 128 ≤ (i 0).val ∧ (i 0).val < rb.val * 128 + 128) ∧ 2 * 384 ≤ (i 1).val ∧ (i 1).val < 2 * 384 + 384
    omega

theorem pieceRect_disjoint (t t' : Fin 2 × Fin 3) (h : t ≠ t') : Disjoint (pieceRect t).set (pieceRect t').set := by
  rw [Finset.disjoint_left]
  intro i hi hi'
  rw [mem_pieceRect] at hi hi'
  exact h (Prod.ext (Fin.ext (by omega)) (Fin.ext (by omega)))

theorem pieceRect_cover : (Finset.univ : Finset (Fin 2 × Fin 3)).biUnion (fun t => (pieceRect t).set) = Finset.univ := by
  refine Finset.eq_univ_iff_forall.mpr fun i => ?_
  have b1 : (i 1).val < 1024 := (i 1).isLt
  refine Finset.mem_biUnion.mpr ⟨(⟨(i 0).val / 128, row_lt i⟩, ⟨(i 1).val / 384, by omega⟩), Finset.mem_univ _, ?_⟩
  rw [mem_pieceRect]
  show ((i 0).val / 128 * 128 ≤ _ ∧ _ < (i 0).val / 128 * 128 + 128) ∧ (i 1).val / 384 * 384 ≤ _ ∧ _ < (i 1).val / 384 * 384 + 384
  omega

/-- The pieces of row block `rb`. -/
def rowPieces (rb : Fin 2) : Finset (Fin 2 × Fin 3) := {(rb, 0), (rb, 1), (rb, 2)}

theorem rowPieces_cover (rb : Fin 2) : (rowPieces rb).biUnion (fun t => (pieceRect t).set) = (rcO1024 rb).set := by
  ext i
  have b1 : (i 1).val < 1024 := (i 1).isLt
  have hb : ∀ t : Fin 2 × Fin 3, t ∈ rowPieces rb ↔ t.1 = rb := by
    revert rb; decide
  rw [Finset.mem_biUnion, mem_rc1024]
  constructor
  · rintro ⟨t, ht, hi⟩
    rw [mem_pieceRect] at hi
    obtain rfl := (hb t).mp ht
    omega
  · intro hi
    refine ⟨(rb, ⟨(i 1).val / 384, by omega⟩), (hb _).mpr rfl, ?_⟩
    rw [mem_pieceRect]
    show (rb.val * 128 ≤ (i 0).val ∧ (i 0).val < rb.val * 128 + 128) ∧ (i 1).val / 384 * 384 ≤ (i 1).val ∧ (i 1).val < (i 1).val / 384 * 384 + 384
    omega

/-! ## Joining a row block -/

variable (I : Dev nD → Inp F)

theorem rowPieces_sep (Φ : Fin 2 × Fin 3 → sProp 𝕄) (rb : Fin 2) :
    BI.bigSep (rowPieces rb) Φ = iprop(Φ (rb, 0) ∗ Φ (rb, 1) ∗ Φ (rb, 2)) := by
  have h0 : ((rb, 0) : Fin 2 × Fin 3) ∉ ({(rb, 1), (rb, 2)} : Finset (Fin 2 × Fin 3)) := by revert rb; decide
  have h1 : ((rb, 1) : Fin 2 × Fin 3) ∉ ({(rb, 2)} : Finset (Fin 2 × Fin 3)) := by revert rb; decide
  unfold rowPieces
  rw [BI.bigSep_insert h0, BI.bigSep_insert h1, BI.bigSep_singleton]
  rfl

/-- Slices that make up a larger one, each owned at its part of `X`, are the larger one owned at its part. -/
theorem owns_join_sub {sp : Space} {sh : Shape} {e : EltTy} (c : Thread nD τ) (m : Memref sig c.2.kind sp sh e) {T : Type} [DecidableEq T]
    (r : T → Rect sh) (hr : ∀ t a, (r t).stride a = 1) (hd : ∀ t t', t ≠ t' → Disjoint (r t).set (r t').set) (X : Vec F sh e) (S : Finset T)
    (r₀ : Rect sh) (hr₀ : ∀ a, r₀.stride a = 1) (hcov : S.biUnion (fun t => (r t).set) = r₀.set) :
    BI.bigSep S (fun t => owns c (m.slice (r t) (hr t)) fullShare (fun j => X ((r t).emb j)))
      ⊢ (owns c (m.slice r₀ hr₀) fullShare (fun j => X (r₀.emb j)) : sProp 𝕄) := by
  refine (owns_rects_join c m fullShare r hr hd X S).trans ?_
  have hset : (S.biUnion fun t => (m.view.slice (r t)).set) = (m.view.slice r₀).set := by
    refine Finset.ext fun x => ⟨fun hx => ?_, fun hx => ?_⟩
    · obtain ⟨t, ht, hx⟩ := Finset.mem_biUnion.mp hx
      rw [View.set_slice] at hx ⊢
      obtain ⟨y, hy, rfl⟩ := Finset.mem_map.mp hx
      exact Finset.mem_map_of_mem _ (hcov ▸ Finset.mem_biUnion.mpr ⟨t, ht, hy⟩)
    · rw [View.set_slice, ← hcov] at hx
      obtain ⟨y, hy, rfl⟩ := Finset.mem_map.mp hx
      obtain ⟨t, ht, hy⟩ := Finset.mem_biUnion.mp hy
      refine Finset.mem_biUnion.mpr ⟨t, ht, ?_⟩
      rw [View.set_slice]
      exact Finset.mem_map_of_mem _ hy
  rw [hset]
  unfold owns
  iintro ⟨%g, %hg, H⟩
  iexists g
  isplitr
  · ipureintro
    funext j
    have hm : r₀.emb j ∈ S.biUnion (fun t => (r t).set) := by
      rw [hcov, ← Rect.map_emb_univ]; exact Finset.mem_map_of_mem _ (Finset.mem_univ _)
    obtain ⟨t, ht, hx⟩ := Finset.mem_biUnion.mp hm
    rw [← Rect.map_emb_univ, Finset.mem_map] at hx
    obtain ⟨y, -, hy⟩ := hx
    have := hg t ht y
    rw [hy] at this
    exact this
  · iexact H

/-- The three pieces of a row block are the row block. -/
theorem row_join (rb : Fin 2) (c : Dev nD) :
    iprop(owns (c : Thread nD τ) (oPiece rb 0) fullShare (outP I rb 0 c) ∗ owns (c : Thread nD τ) (oPiece rb 1) fullShare (outP I rb 1 c)
        ∗ owns (c : Thread nD τ) (oPiece rb 2) fullShare (outP I rb 2 c))
      ⊢ (owns (c : Thread nD τ) (oRow rb) fullShare (outRow I rb c) : sProp 𝕄) := by
  have key := owns_join_sub (c : Thread nD τ) (Memref.whole cc0_scratch5) pieceRect pieceRect_stride pieceRect_disjoint (outAll I c) (rowPieces rb)
    (rcO1024 rb) (fun _ => rfl) (rowPieces_cover rb)
  rw [rowPieces_sep] at key
  rw [← out_piece0 I rb c, ← out_piece1 I rb c, ← out_piece2 I rb c]
  exact key

end Cert.Exchange

end
-- ==== Proof.PartsLast.lean ====
/-
The parts of the program that take in the last round and send the rows of the result out.
-/
module

public import proofs.«01_k».proof.Proof.Rows

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Dev nD → Inp F) (K : Dev nD × CI → ℕ)

theorem part28 (c : Dev nD) (v639 : BitVec 32) (v779 : BitVec 32) {α : Type} {Q : α → sProp 𝕄} {k : Rest F ((FVec F S128x384 .bf16)) α} :
    ⊢ iprop(levAts L lv -∗ Idle (pieces I) K 17 c -∗ owns (c : Thread nD τ) (sSlot 1 2) fullShare (pt I 1 2 2 c) -∗ owesN c 17 -∗ Sent (pieces I) K 12 c -∗ (Sent (pieces I) K 17 c -∗ owesN c 18 -∗ Done (pieces I) 12 c -∗ some' c (sSlot 0 0) -∗ wpc c (k (pt I 0 0 2 (pe 2 c))) Q)
        -∗ wpc (α := α) c ((atBufs (k0_part28 (F := F)) c v639 v779).bind k) Q) := by
  simp only [k0_part28_eq_skeleton]
  unfold k0_part28_skel
  simp only [Prog.lift, Prog.bind_op, Prog.bind_ret, Prog.pure_eq_ret]
  iintro #Hlev HE17 HS12 Hn HE12 Hk
  iapply (send_step (pieces I) K 17 c _ (dev21_eq c)) $$ [HE17 HS12 Hn]
  · isplitl [HE17]; · iexact HE17
    isplitl [HS12]; · iexact HS12
    iexact Hn
  iintro ⟨HE17, Hn⟩
  iapply (wait_send_step (pieces I) K 12 c 18) $$ [HE12 Hn]
  · isplitr; · iexact Hlev
    isplitl [HE12]; · iexact HE12
    iexact Hn
  iintro ⟨HE12, HS00, Hn⟩
  iapply (wait_recv_step (pieces I) K 12 c 18 (by decide)) $$ [HE12 Hn]
  · isplitr; · iexact Hlev
    isplitl [HE12]; · iexact HE12
    iexact Hn
  iintro ⟨HE12, Hn⟩
  icases HE12 with ⟨Hz, Hz', Hr⟩
  iapply (load_squeezed c _ _ (fun _ => rfl) squeezes_S1x128x384_S128x384 (sent (pieces I) 12 (peer 12 c))) $$ [Hr]
  · iexact Hr
  iintro %y %hy Hr
  ihave HE12 := (show iprop(_ ∗ _ ∗ _) ⊢ Done (pieces I) 12 c from BI.Entails.refl _) $$ [Hz Hz' Hr]
  · isplitl [Hz]; · iexact Hz
    isplitl [Hz']; · iexact Hz'
    iexact Hr
  simp only [Prog.bind_ret]
  rw [show k0_pay74 y = pt I 0 0 2 (pe 2 c) from hy]
  iapply Hk $$ [HE17] [Hn] [HE12] [HS00]
  · iexact HE17
  · iexact Hn
  · iexact HE12
  · iexact HS00

theorem part29 (c : Dev nD) (v667 : BitVec 32) {α : Type} {Q : α → sProp 𝕄} {k : Rest F (PUnit) α} :
    ⊢ iprop(levAts L lv -∗ some' c (oPiece 0 0) -∗ Sent (pieces I) K 13 c -∗ owesN c 18 -∗ some' c (oPiece 0 1) -∗ (owns (c : Thread nD τ) (oPiece 0 0) fullShare (outP I 0 0 c) -∗ Done (pieces I) 13 c -∗ owesN c 18 -∗ owns (c : Thread nD τ) (oPiece 0 1) fullShare (outP I 0 1 c) -∗ some' c (sSlot 0 1) -∗ wpc c (k ⟨⟩) Q)
        -∗ wpc (α := α) c ((atBufs (k0_part29 (F := F)) (pt I 0 0 2 c) (pt I 0 1 2 c) v667 (pt I 0 0 2 (pe 2 c))).bind k) Q) := by
  simp only [k0_part29_eq_skeleton]
  unfold k0_part29_skel
  simp only [Prog.lift, Prog.bind_op, Prog.bind_ret, Prog.pure_eq_ret]
  iintro #Hlev HO00 HE13 Hn HO01 Hk
  iapply (load_any c _ _ (fun _ => rfl)) $$ [HO00]
  · iexact HO00
  iintro %_ HO00
  iapply (store_any c _ _ (fun _ => rfl) (outP I 0 0 c) (shapeCast_self (outP I 0 0 c) _)) $$ [HO00]
  · iexact HO00
  iintro HO00
  iapply (wait_send_step (pieces I) K 13 c 18) $$ [HE13 Hn]
  · isplitr; · iexact Hlev
    isplitl [HE13]; · iexact HE13
    iexact Hn
  iintro ⟨HE13, HS01, Hn⟩
  iapply (wait_recv_step (pieces I) K 13 c 18 (by decide)) $$ [HE13 Hn]
  · isplitr; · iexact Hlev
    isplitl [HE13]; · iexact HE13
    iexact Hn
  iintro ⟨HE13, Hn⟩
  icases HE13 with ⟨Hz, Hz', Hr⟩
  iapply (merge_step c _ _ (fun _ => rfl) squeezes_S1x128x384_S128x384 _ _ (fun _ => rfl) (sent (pieces I) 13 (peer 13 c)) (outP I 0 1 c)
      (fun y hy => (shapeCast_self _ _).trans (congrArg (fun u => extf .f32 (addf (pt I 0 1 2 c) u) bitsLt_bf16_f32) hy))) $$ [Hr HO01]
  · isplitl [Hr]; · iexact Hr
    iexact HO01
  iintro %y %hy Hr HO01
  ihave HE13 := (show iprop(_ ∗ _ ∗ _) ⊢ Done (pieces I) 13 c from BI.Entails.refl _) $$ [Hz Hz' Hr]
  · isplitl [Hz]; · iexact Hz
    isplitl [Hz']; · iexact Hz'
    iexact Hr
  iapply Hk $$ [HO00] [HE13] [Hn] [HO01] [HS01]
  · iexact HO00
  · iexact HE13
  · iexact Hn
  · iexact HO01
  · iexact HS01

theorem part30 (c : Dev nD) (v695 : BitVec 32) {α : Type} {Q : α → sProp 𝕄} {k : Rest F (PUnit) α} :
    ⊢ iprop(levAts L lv -∗ Sent (pieces I) K 14 c -∗ owesN c 18 -∗ some' c (oPiece 0 2) -∗ (Done (pieces I) 14 c -∗ owesN c 18 -∗ owns (c : Thread nD τ) (oPiece 0 2) fullShare (outP I 0 2 c) -∗ some' c (sSlot 0 2) -∗ wpc c (k ⟨⟩) Q)
        -∗ wpc (α := α) c ((atBufs (k0_part30 (F := F)) (pt I 0 2 2 c) v695).bind k) Q) := by
  simp only [k0_part30_eq_skeleton]
  unfold k0_part30_skel
  simp only [Prog.lift, Prog.bind_op, Prog.bind_ret, Prog.pure_eq_ret]
  iintro #Hlev HE14 Hn HO02 Hk
  iapply (wait_send_step (pieces I) K 14 c 18) $$ [HE14 Hn]
  · isplitr; · iexact Hlev
    isplitl [HE14]; · iexact HE14
    iexact Hn
  iintro ⟨HE14, HS02, Hn⟩
  iapply (wait_recv_step (pieces I) K 14 c 18 (by decide)) $$ [HE14 Hn]
  · isplitr; · iexact Hlev
    isplitl [HE14]; · iexact HE14
    iexact Hn
  iintro ⟨HE14, Hn⟩
  icases HE14 with ⟨Hz, Hz', Hr⟩
  iapply (merge_step c _ _ (fun _ => rfl) squeezes_S1x128x256_S128x256 _ _ (fun _ => rfl) (sent (pieces I) 14 (peer 14 c)) (outP I 0 2 c)
      (fun y hy => (shapeCast_self _ _).trans (congrArg (fun u => extf .f32 (addf (pt I 0 2 2 c) u) bitsLt_bf16_f32) hy))) $$ [Hr HO02]
  · isplitl [Hr]; · iexact Hr
    iexact HO02
  iintro %y %hy Hr HO02
  ihave HE14 := (show iprop(_ ∗ _ ∗ _) ⊢ Done (pieces I) 14 c from BI.Entails.refl _) $$ [Hz Hz' Hr]
  · isplitl [Hz]; · iexact Hz
    isplitl [Hz']; · iexact Hz'
    iexact Hr
  iapply Hk $$ [HE14] [Hn] [HO02] [HS02]
  · iexact HE14
  · iexact Hn
  · iexact HO02
  · iexact HS02

theorem part31 (c : Dev nD) (v723 : BitVec 32) {α : Type} {Q : α → sProp 𝕄} {k : Rest F (PUnit) α} :
    ⊢ iprop(levAts L lv -∗ owns (c : Thread nD τ) (oPiece 0 0) fullShare (outP I 0 0 c) -∗ owns (c : Thread nD τ) (oPiece 0 1) fullShare (outP I 0 1 c) -∗ owns (c : Thread nD τ) (oPiece 0 2) fullShare (outP I 0 2 c) -∗ (∃ f, (hRow 0).view.loc (c : Thread nD τ) ↦[(hRow 0).view.set]{fullShare} f) -∗ semVal ((c : Thread nD τ), .dma (inS 5)) 0 -∗ Sent (pieces I) K 15 c -∗ owesN c 18 -∗ some' c (oPiece 1 0) -∗ (Done (pieces I) 15 c -∗ owesN c 18 -∗ owns (c : Thread nD τ) (oPiece 1 0) fullShare (outP I 1 0 c) -∗ Flying c (inS 5) (oRow 0) (hRow 0) fullShare (outRow I 0 c) -∗ some' c (sSlot 1 0) -∗ wpc c (k ⟨⟩) Q)
        -∗ wpc (α := α) c ((atBufs (k0_part31 (F := F)) (pt I 1 0 2 c) v723).bind k) Q) := by
  simp only [k0_part31_eq_skeleton]
  unfold k0_part31_skel
  simp only [Prog.lift, Prog.bind_op, Prog.bind_ret, Prog.pure_eq_ret]
  iintro #Hlev HO00 HO01 HO02 HH0 HV5 HE15 Hn HO10 Hk
  ihave Ho := (row_join I 0 c) $$ [HO00 HO01 HO02]
  · isplitl [HO00]; · iexact HO00
    isplitl [HO01]; · iexact HO01
    iexact HO02
  iapply (copy_step c (oRow 0) (hRow 0) (inS 5) (by decide)) $$ [Ho HH0 HV5]
  · isplitl [Ho]; · iexact Ho
    isplitl [HH0]; · iexact HH0
    iexact HV5
  iintro HF0
  iapply (wait_send_step (pieces I) K 15 c 18) $$ [HE15 Hn]
  · isplitr; · iexact Hlev
    isplitl [HE15]; · iexact HE15
    iexact Hn
  iintro ⟨HE15, HS10, Hn⟩
  iapply (wait_recv_step (pieces I) K 15 c 18 (by decide)) $$ [HE15 Hn]
  · isplitr; · iexact Hlev
    isplitl [HE15]; · iexact HE15
    iexact Hn
  iintro ⟨HE15, Hn⟩
  icases HE15 with ⟨Hz, Hz', Hr⟩
  iapply (merge_step c _ _ (fun _ => rfl) squeezes_S1x128x384_S128x384 _ _ (fun _ => rfl) (sent (pieces I) 15 (peer 15 c)) (outP I 1 0 c)
      (fun y hy => (shapeCast_self _ _).trans (congrArg (fun u => extf .f32 (addf (pt I 1 0 2 c) u) bitsLt_bf16_f32) hy))) $$ [Hr HO10]
  · isplitl [Hr]; · iexact Hr
    iexact HO10
  iintro %y %hy Hr HO10
  ihave HE15 := (show iprop(_ ∗ _ ∗ _) ⊢ Done (pieces I) 15 c from BI.Entails.refl _) $$ [Hz Hz' Hr]
  · isplitl [Hz]; · iexact Hz
    isplitl [Hz']; · iexact Hz'
    iexact Hr
  iapply Hk $$ [HE15] [Hn] [HO10] [HF0] [HS10]
  · iexact HE15
  · iexact Hn
  · iexact HO10
  · iexact HF0
  · iexact HS10

theorem part32 (c : Dev nD) (v751 : BitVec 32) {α : Type} {Q : α → sProp 𝕄} {k : Rest F (PUnit) α} :
    ⊢ iprop(levAts L lv -∗ Sent (pieces I) K 16 c -∗ owesN c 18 -∗ some' c (oPiece 1 1) -∗ (Done (pieces I) 16 c -∗ owesN c 18 -∗ owns (c : Thread nD τ) (oPiece 1 1) fullShare (outP I 1 1 c) -∗ some' c (sSlot 1 1) -∗ wpc c (k ⟨⟩) Q)
        -∗ wpc (α := α) c ((atBufs (k0_part32 (F := F)) (pt I 1 1 2 c) v751).bind k) Q) := by
  simp only [k0_part32_eq_skeleton]
  unfold k0_part32_skel
  simp only [Prog.lift, Prog.bind_op, Prog.bind_ret, Prog.pure_eq_ret]
  iintro #Hlev HE16 Hn HO11 Hk
  iapply (wait_send_step (pieces I) K 16 c 18) $$ [HE16 Hn]
  · isplitr; · iexact Hlev
    isplitl [HE16]; · iexact HE16
    iexact Hn
  iintro ⟨HE16, HS11, Hn⟩
  iapply (wait_recv_step (pieces I) K 16 c 18 (by decide)) $$ [HE16 Hn]
  · isplitr; · iexact Hlev
    isplitl [HE16]; · iexact HE16
    iexact Hn
  iintro ⟨HE16, Hn⟩
  icases HE16 with ⟨Hz, Hz', Hr⟩
  iapply (merge_step c _ _ (fun _ => rfl) squeezes_S1x128x384_S128x384 _ _ (fun _ => rfl) (sent (pieces I) 16 (peer 16 c)) (outP I 1 1 c)
      (fun y hy => (shapeCast_self _ _).trans (congrArg (fun u => extf .f32 (addf (pt I 1 1 2 c) u) bitsLt_bf16_f32) hy))) $$ [Hr HO11]
  · isplitl [Hr]; · iexact Hr
    iexact HO11
  iintro %y %hy Hr HO11
  ihave HE16 := (show iprop(_ ∗ _ ∗ _) ⊢ Done (pieces I) 16 c from BI.Entails.refl _) $$ [Hz Hz' Hr]
  · isplitl [Hz]; · iexact Hz
    isplitl [Hz']; · iexact Hz'
    iexact Hr
  iapply Hk $$ [HE16] [Hn] [HO11] [HS11]
  · iexact HE16
  · iexact Hn
  · iexact HO11
  · iexact HS11

theorem part33 (c : Dev nD) (v779 : BitVec 32) {α : Type} {Q : α → sProp 𝕄} {k : Rest F (PUnit) α} :
    ⊢ iprop(levAts L lv -∗ Sent (pieces I) K 17 c -∗ owesN c 18 -∗ some' c (oPiece 1 2) -∗ owns (c : Thread nD τ) (oPiece 1 0) fullShare (outP I 1 0 c) -∗ owns (c : Thread nD τ) (oPiece 1 1) fullShare (outP I 1 1 c) -∗ (∃ f, (hRow 1).view.loc (c : Thread nD τ) ↦[(hRow 1).view.set]{fullShare} f) -∗ semVal ((c : Thread nD τ), .dma (inS 6)) 0 -∗ (Done (pieces I) 17 c -∗ owesN c 18 -∗ some' c (sSlot 1 2) -∗ Flying c (inS 6) (oRow 1) (hRow 1) fullShare (outRow I 1 c) -∗ wpc c (k ⟨⟩) Q)
        -∗ wpc (α := α) c ((atBufs (k0_part33 (F := F)) (pt I 1 2 2 c) v779).bind k) Q) := by
  simp only [k0_part33_eq_skeleton]
  unfold k0_part33_skel
  simp only [Prog.lift, Prog.bind_op, Prog.bind_ret, Prog.pure_eq_ret]
  iintro #Hlev HE17 Hn HO12 HO10 HO11 HH1 HV6 Hk
  iapply (wait_send_step (pieces I) K 17 c 18) $$ [HE17 Hn]
  · isplitr; · iexact Hlev
    isplitl [HE17]; · iexact HE17
    iexact Hn
  iintro ⟨HE17, HS12, Hn⟩
  iapply (wait_recv_step (pieces I) K 17 c 18 (by decide)) $$ [HE17 Hn]
  · isplitr; · iexact Hlev
    isplitl [HE17]; · iexact HE17
    iexact Hn
  iintro ⟨HE17, Hn⟩
  icases HE17 with ⟨Hz, Hz', Hr⟩
  iapply (merge_step c _ _ (fun _ => rfl) squeezes_S1x128x256_S128x256 _ _ (fun _ => rfl) (sent (pieces I) 17 (peer 17 c)) (outP I 1 2 c)
      (fun y hy => (shapeCast_self _ _).trans (congrArg (fun u => extf .f32 (addf (pt I 1 2 2 c) u) bitsLt_bf16_f32) hy))) $$ [Hr HO12]
  · isplitl [Hr]; · iexact Hr
    iexact HO12
  iintro %y %hy Hr HO12
  ihave HE17 := (show iprop(_ ∗ _ ∗ _) ⊢ Done (pieces I) 17 c from BI.Entails.refl _) $$ [Hz Hz' Hr]
  · isplitl [Hz]; · iexact Hz
    isplitl [Hz']; · iexact Hz'
    iexact Hr
  ihave Ho := (row_join I 1 c) $$ [HO10 HO11 HO12]
  · isplitl [HO10]; · iexact HO10
    isplitl [HO11]; · iexact HO11
    iexact HO12
  iapply (copy_step c (oRow 1) (hRow 1) (inS 6) (by decide)) $$ [Ho HH1 HV6]
  · isplitl [Ho]; · iexact Ho
    isplitl [HH1]; · iexact HH1
    iexact HV6
  iintro HF1
  iapply Hk $$ [HE17] [Hn] [HS12] [HF1]
  · iexact HE17
  · iexact Hn
  · iexact HS12
  · iexact HF1

end Cert.Exchange

end
-- ==== Proof.Body.lean ====
/-
The whole program of one device: what it needs and what it leaves.
-/
module

public import proofs.«01_k».proof.Proof.Start
public import proofs.«01_k».proof.Proof.PartsFirst
public import proofs.«01_k».proof.Proof.PartsRounds
public import proofs.«01_k».proof.Proof.PartsLast

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Dev nD → Inp F) (K : Dev nD × CI → ℕ)

/-- The body at the kernel's buffers. -/
abbrev bodyP : Prog (TpuEff nD τ sig (Elt F) Λ₀ .tc) PUnit := atBufs (cc0_body (F := F))

/-- The buffers the pieces are sent from. -/
def Slots (c : Dev nD) : sProp 𝕄 :=
  iprop(some' c (sSlot 0 0) ∗ some' c (sSlot 0 1) ∗ some' c (sSlot 0 2) ∗ some' c (sSlot 1 0) ∗ some' c (sSlot 1 1) ∗ some' c (sSlot 1 2))
/-- The pieces of the staged result, with any content. -/
def Outs (c : Dev nD) : sProp 𝕄 :=
  iprop(some' c (oPiece 0 0) ∗ some' c (oPiece 0 1) ∗ some' c (oPiece 0 2) ∗ some' c (oPiece 1 0) ∗ some' c (oPiece 1 1) ∗ some' c (oPiece 1 2))
/-- A row of the result's memory, with any content. -/
def anyRow (rb : Fin 2) (c : Dev nD) : sProp 𝕄 :=
  iprop(∃ f, (hRow rb).view.loc (c : Thread nD τ) ↦[(hRow rb).view.set]{fullShare} f)
/-- The two halves of the result, staged and sent out. -/
def Result (c : Dev nD) : sProp 𝕄 :=
  iprop(owns (c : Thread nD τ) (hRow 0) fullShare (outRow I 0 c) ∗ owns (c : Thread nD τ) (hRow 1) fullShare (outRow I 1 c))
def Staged (c : Dev nD) : sProp 𝕄 :=
  iprop(owns (c : Thread nD τ) (oRow 0) fullShare (outRow I 0 c) ∗ owns (c : Thread nD τ) (oRow 1) fullShare (outRow I 1 c))

theorem eighteen (P : Fin 18 → sProp 𝕄) : bigSep Finset.univ P = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17) :=
  bigSep_univ_eq_bigSepL [0, 1, 2, 3, 4, 5, 6, 7, 8, 9, 10, 11, 12, 13, 14, 15, 16, 17] (by decide) (by decide) P

/-- After the barrier a device holds where its transfers land. -/
theorem idle_all (X : Fin 2 → (p : Fin 3) → Dev nD → FVec F (sP p) .bf16) (c : Dev nD) :
    iprop(bigSep Finset.univ (fun e => Early X K e c) ∗ (barPay c 0 ∗ barPay c 1 ∗ barPay c 2)) ⊢ bigSep Finset.univ fun e => Idle X K e c := by
  unfold Idle
  rw [bigSep_sep', bigSep_fiberwise Finset.univ axOf (fun e => some' (peer e c) (dst e)),
    show Finset.univ.image axOf = Finset.univ by decide]
  refine sep_mono_right ?_
  rw [bigSep_univ_eq_bigSepL [0, 1, 2] (by decide) (by decide)]
  have h : ∀ a : Fin 3, (barPay c a : sProp 𝕄) = bigSep (Finset.univ.filter fun e => axOf e = a) fun e => some' (peer e c) (dst e) := fun a => by
    unfold barPay along
    refine bigSep_congr fun e he => ?_
    rw [← (Finset.mem_filter.mp he).2]
  rw [h 0, h 1, h 2]
  exact BI.Entails.refl _

/-- The rest of the program once the two halves are on their way out. -/
theorem last_waits (c : Dev nD) {Q : PUnit → sProp 𝕄} {hs0 hd0 hs1 hd1} :
    ⊢ iprop(levAts L lv -∗ Flying c (inS 5) (oRow 0) (hRow 0) fullShare (outRow I 0 c) -∗ Flying c (inS 6) (oRow 1) (hRow 1) fullShare (outRow I 1 c)
        -∗ owesN c 18
        -∗ (Result I c -∗ Staged I c -∗ semVal ((c : Thread nD τ), .dma (inS 5)) 0 -∗ semVal ((c : Thread nD τ), .dma (inS 6)) 0 -∗ owesN c 18 -∗ Q ⟨⟩)
        -∗ wpc c (.op (.waitDma2 (inS 5) (oRow 0) (hRow 0) hs0 hd0) fun _ => .op (.waitDma2 (inS 6) (oRow 1) (hRow 1) hs1 hd1) .ret) Q) := by
  unfold Result Staged
  iintro #Hlev HF0 HF1 Hn Hk
  iapply (copy_wait c (oRow 0) (hRow 0) (inS 5) 18 (by decide)) $$ [HF0 Hn]
  · isplitr; · iexact Hlev
    isplitl [HF0]; · iexact HF0
    iexact Hn
  iintro ⟨Hr0, Hs0, HV5, Hn⟩
  iapply (copy_wait c (oRow 1) (hRow 1) (inS 6) 18 (by decide)) $$ [HF1 Hn]
  · isplitr; · iexact Hlev
    isplitl [HF1]; · iexact HF1
    iexact Hn
  iintro ⟨Hr1, Hs1, HV6, Hn⟩
  iapply (le_wp_ret (a := PUnit.unit) (Q := Q))
  iapply Hk $$ [Hr0 Hr1] [Hs0 Hs1] [HV5] [HV6] [Hn]
  · isplitl [Hr0]; · iexact Hr0
    iexact Hr1
  · isplitl [Hs0]; · iexact Hs0
    iexact Hs1
  · iexact HV5
  · iexact HV6
  · iexact Hn

theorem body_run (c : Dev nD) {Q : PUnit → sProp 𝕄} :
    ⊢ iprop(levAts L lv -∗ Args I c -∗ Bufs c -∗ InSems c -∗ semVal ((c : Thread nD τ), .dma (inS 5)) 0 -∗ semVal ((c : Thread nD τ), .dma (inS 6)) 0
        -∗ SigTok (pieces I) K 0 c -∗ landing c 0 -∗ SigTok (pieces I) K 1 c -∗ landing c 1 -∗ SigTok (pieces I) K 2 c -∗ landing c 2
        -∗ BarTok (pieces I) K c -∗ owesO c (O₀ c) -∗ bigSep Finset.univ (fun e => Early (pieces I) K e c)
        -∗ Slots c -∗ Outs c -∗ anyRow 0 c -∗ anyRow 1 c
        -∗ (semVal (barCell c) 0 -∗ Copied I c -∗ owns (c : Thread nD τ) wo_s fullShare (I c).wo -∗ InSems c
              -∗ semVal ((c : Thread nD τ), .dma (inS 5)) 0 -∗ semVal ((c : Thread nD τ), .dma (inS 6)) 0
              -∗ bigSep Finset.univ (fun e => Done (pieces I) e c) -∗ Slots c -∗ Result I c -∗ Staged I c -∗ owesN c 18 -∗ Q ⟨⟩)
        -∗ wpc c (bodyP (F := F)) Q) := by
  unfold bodyP
  rw [cc0_body_eq_skeleton]
  unfold cc0_body_skel
  unfold Slots Outs anyRow
  iintro #Hlev HA HB HV HV5 HV6 Ht0 Hl0 Ht1 Hl1 Ht2 Hl2 Hbar HO HE ⟨HS00, HS01, HS02, HS10, HS11, HS12⟩ ⟨HO00, HO01, HO02, HO10, HO11, HO12⟩ HH0 HH1 Hk
  iapply (part1 (pieces I) K I c) $$ [HA] [HB] [HV] [Ht0] [Hl0] [Ht1] [Hl1] [HO]
  · iexact HA
  · iexact HB
  · iexact HV
  · iexact Ht0
  · iexact Hl0
  · iexact Ht1
  · iexact Hl1
  · iexact HO
  iintro %v2 %v26 HC HO
  iapply (part2 (pieces I) K I c v26) $$ [] [HC] [Ht2] [Hl2] [Hbar] [HO]
  · iexact Hlev
  · iexact HC
  · iexact Ht2
  · iexact Hl2
  · iexact Hbar
  · iexact HO
  iintro Hz Hpay HC Hwo HV Hn
  ihave HE := (idle_all K (pieces I) c) $$ [HE Hpay]
  · isplitl [HE]; · iexact HE
    iexact Hpay
  ihave HE := (Entails.of_eq (eighteen fun e => Idle (pieces I) K e c)) $$ HE
  icases HE with ⟨HE0, HE1, HE2, HE3, HE4, HE5, HE6, HE7, HE8, HE9, HE10, HE11, HE12, HE13, HE14, HE15, HE16, HE17⟩
  iapply (part3 I c)
  iapply (part4 I c)
  iapply (part5 I c)
  iapply (part6 I K c _) $$ [Hwo] [HS00] [HE0] [Hn] [HS01]
  · iexact Hwo
  · iexact HS00
  · iexact HE0
  · iexact Hn
  · iexact HS01
  iintro %v210 %v227 Hwo HE0 Hn HS01
  iapply (part7 I K c _ _) $$ [HE1] [HS01] [Hn] [Hwo] [HS02]
  · iexact HE1
  · iexact HS01
  · iexact Hn
  · iexact Hwo
  · iexact HS02
  iintro %v244 HE1 Hn Hwo HS02
  iapply (part8 I K c) $$ [HE2] [HS02] [Hn]
  · iexact HE2
  · iexact HS02
  · iexact Hn
  iintro HE2 Hn
  iapply (part9 I c)
  iapply (part10 I c)
  iapply (part11 I K c _) $$ [Hwo] [HS10] [HE3] [Hn] [HS11]
  · iexact Hwo
  · iexact HS10
  · iexact HE3
  · iexact Hn
  · iexact HS11
  iintro %v409 Hwo HE3 Hn HS11
  iapply (part12 I K c _) $$ [HS11] [HE4] [Hn] [Hwo] [HS12]
  · iexact HS11
  · iexact HE4
  · iexact Hn
  · iexact Hwo
  · iexact HS12
  iintro %v426 %v443 HE4 Hn Hwo HS12
  iapply (part13 I K c _ _) $$ [] [HE5] [HS12] [Hn] [HE0]
  · iexact Hlev
  · iexact HE5
  · iexact HS12
  · iexact Hn
  · iexact HE0
  iintro %v471 HE5 Hn HE0 HS00
  iapply (part14 I K c _ _) $$ [] [HE6] [HS00] [Hn] [HE1]
  · iexact Hlev
  · iexact HE6
  · iexact HS00
  · iexact Hn
  · iexact HE1
  iintro HE6 Hn HE1 HS01
  iapply (part15 I K c _) $$ [] [HE1] [HS01] [HE7] [Hn] [HE2]
  · iexact Hlev
  · iexact HE1
  · iexact HS01
  · iexact HE7
  · iexact Hn
  · iexact HE2
  iintro %v499 HE1 HE7 Hn HE2 HS02
  iapply (part16 I K c _ _) $$ [] [HE2] [Hn] [HS02] [HE8]
  · iexact Hlev
  · iexact HE2
  · iexact Hn
  · iexact HS02
  · iexact HE8
  iintro %v527 HE2 Hn HE8
  iapply (part17 I K c _ _) $$ [] [HE3] [Hn]
  · iexact Hlev
  · iexact HE3
  · iexact Hn
  iintro %v555 HE3 Hn HS10
  iapply (part18 I K c _) $$ [] [HE9] [HS10] [Hn] [HE4]
  · iexact Hlev
  · iexact HE9
  · iexact HS10
  · iexact Hn
  · iexact HE4
  iintro %c4_i32_437 HE9 Hn HE4 HS11
  iapply (part19 I K c _ _ _) $$ [] [HE10] [HS11] [Hn] [HE5]
  · iexact Hlev
  · iexact HE10
  · iexact HS11
  · iexact Hn
  · iexact HE5
  iintro %v583 HE10 Hn HE5 HS12
  iapply (part20 I K c _) $$ [] [HE5] [Hn] [HS12] [HE11] [HE6]
  · iexact Hlev
  · iexact HE5
  · iexact Hn
  · iexact HS12
  · iexact HE11
  · iexact HE6
  iintro %v611 HE5 Hn HE11 HE6 HS00
  iapply (part21 I K c _ _) $$ [] [HE6] [Hn] [HS00] [HE12]
  · iexact Hlev
  · iexact HE6
  · iexact Hn
  · iexact HS00
  · iexact HE12
  iintro %v639 HE6 Hn HE12
  iapply (part22 I K c _ _) $$ [] [HE7] [Hn]
  · iexact Hlev
  · iexact HE7
  · iexact Hn
  iintro %v667 HE7 Hn HS01
  iapply (part23 I K c _) $$ [] [HE13] [HS01] [Hn] [HE8]
  · iexact Hlev
  · iexact HE13
  · iexact HS01
  · iexact Hn
  · iexact HE8
  iintro %v692 HE13 Hn HE8 HS02
  iapply (part24 I K c _ _ _) $$ [] [HS02] [HE14] [Hn] [HE9]
  · iexact Hlev
  · iexact HS02
  · iexact HE14
  · iexact Hn
  · iexact HE9
  iintro %v695 HE14 Hn HE9 HS10
  iapply (part25 I K c _) $$ [] [HE9] [Hn] [HS10] [HE15]
  · iexact Hlev
  · iexact HE9
  · iexact Hn
  · iexact HS10
  · iexact HE15
  iintro %v723 HE9 Hn HE15
  iapply (part26 I K c _ _) $$ [] [HE10] [Hn] [HE16]
  · iexact Hlev
  · iexact HE10
  · iexact Hn
  · iexact HE16
  iintro %v751 HE10 Hn HE16
  iapply (part27 I K c _ _) $$ [] [HE11] [Hn]
  · iexact Hlev
  · iexact HE11
  · iexact Hn
  iintro %v779 HE11 Hn HS12
  iapply (part28 I K c _ _) $$ [] [HE17] [HS12] [Hn] [HE12]
  · iexact Hlev
  · iexact HE17
  · iexact HS12
  · iexact Hn
  · iexact HE12
  iintro HE17 Hn HE12 HS00
  iapply (part29 I K c _) $$ [] [HO00] [HE13] [Hn] [HO01]
  · iexact Hlev
  · iexact HO00
  · iexact HE13
  · iexact Hn
  · iexact HO01
  iintro HO00 HE13 Hn HO01 HS01
  iapply (part30 I K c _) $$ [] [HE14] [Hn] [HO02]
  · iexact Hlev
  · iexact HE14
  · iexact Hn
  · iexact HO02
  iintro HE14 Hn HO02 HS02
  iapply (part31 I K c _) $$ [] [HO00] [HO01] [HO02] [HH0] [HV5] [HE15] [Hn] [HO10]
  · iexact Hlev
  · iexact HO00
  · iexact HO01
  · iexact HO02
  · iexact HH0
  · iexact HV5
  · iexact HE15
  · iexact Hn
  · iexact HO10
  iintro HE15 Hn HO10 HF0 HS10
  iapply (part32 I K c _) $$ [] [HE16] [Hn] [HO11]
  · iexact Hlev
  · iexact HE16
  · iexact Hn
  · iexact HO11
  iintro HE16 Hn HO11 HS11
  iapply (part33 I K c _) $$ [] [HE17] [Hn] [HO12] [HO10] [HO11] [HH1] [HV6]
  · iexact Hlev
  · iexact HE17
  · iexact Hn
  · iexact HO12
  · iexact HO10
  · iexact HO11
  · iexact HH1
  · iexact HV6
  iintro HE17 Hn HS12 HF1
  iapply (last_waits I c) $$ [] [HF0] [HF1] [Hn]
  · iexact Hlev
  · iexact HF0
  · iexact HF1
  · iexact Hn
  iintro Hr Hs HV5 HV6 Hn
  iapply Hk $$ [Hz] [HC] [Hwo] [HV] [HV5] [HV6] [HE0 HE1 HE2 HE3 HE4 HE5 HE6 HE7 HE8 HE9 HE10 HE11 HE12 HE13 HE14 HE15 HE16 HE17] [HS00 HS01 HS02 HS10 HS11 HS12] [Hr] [Hs] [Hn]
  · iexact Hz
  · iexact HC
  · iexact Hwo
  · iexact HV
  · iexact HV5
  · iexact HV6
  · iapply (Entails.of_eq (eighteen fun e => Done (pieces I) e c).symm)
    isplitl [HE0]; · iexact HE0
    isplitl [HE1]; · iexact HE1
    isplitl [HE2]; · iexact HE2
    isplitl [HE3]; · iexact HE3
    isplitl [HE4]; · iexact HE4
    isplitl [HE5]; · iexact HE5
    isplitl [HE6]; · iexact HE6
    isplitl [HE7]; · iexact HE7
    isplitl [HE8]; · iexact HE8
    isplitl [HE9]; · iexact HE9
    isplitl [HE10]; · iexact HE10
    isplitl [HE11]; · iexact HE11
    isplitl [HE12]; · iexact HE12
    isplitl [HE13]; · iexact HE13
    isplitl [HE14]; · iexact HE14
    isplitl [HE15]; · iexact HE15
    isplitl [HE16]; · iexact HE16
    iexact HE17
  · isplitl [HS00]; · iexact HS00
    isplitl [HS01]; · iexact HS01
    isplitl [HS02]; · iexact HS02
    isplitl [HS10]; · iexact HS10
    isplitl [HS11]; · iexact HS11
    iexact HS12
  · iexact Hr
  · iexact Hs
  · iexact Hn

end Cert.Exchange

end
-- ==== Proof.Buffers.lean ====
/-
The buffers of a device cut into the parts that the transfers and the accesses use, and put together again.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Any buffer -/

/-- A buffer with any content. -/
abbrev anyBuf (c : Dev nD) (b : Ref sig .tc) : sProp 𝕄 := iprop(∃ f, ((c : Thread nD τ).loc b) ↦{fullShare} f)

theorem any_split (c : Dev nD) (b : Ref sig .tc) {T : Type} [Fintype T] [DecidableEq T] (S : T → Finset (Idx ((c : Thread nD τ).loc b)))
    (hd : ∀ t t', t ≠ t' → Disjoint (S t) (S t')) (hc : Finset.univ.biUnion S = Finset.univ) :
    anyBuf c b ⊢ bigSep Finset.univ fun t => (iprop(∃ f, ((c : Thread nD τ).loc b) ↦[S t]{fullShare} f) : sProp 𝕄) := by
  have key (f : Buf (Elt F) ((c : Thread nD τ).loc b)) : (((c : Thread nD τ).loc b) ↦[Finset.univ]{fullShare} f : sProp 𝕄)
      ⊢ bigSep Finset.univ fun t => (iprop(∃ f, ((c : Thread nD τ).loc b) ↦[S t]{fullShare} f) : sProp 𝕄) := by
    rw [← hc, pointsTo_biUnion Finset.univ S fun t _ t' _ => hd t t']
    have one (t : T) : (((c : Thread nD τ).loc b) ↦[S t]{fullShare} f : sProp 𝕄) ⊢ iprop(∃ f, ((c : Thread nD τ).loc b) ↦[S t]{fullShare} f) := by
      iintro H; iexists f; iexact H
    exact bigSep_mono fun t _ => one t
  iintro ⟨%f, H⟩
  iapply (key f)
  iexact H

theorem any_join (c : Dev nD) (b : Ref sig .tc) {T : Type} [Fintype T] [DecidableEq T] [Inhabited T] (S : T → Finset (Idx ((c : Thread nD τ).loc b)))
    (hd : ∀ t t', t ≠ t' → Disjoint (S t) (S t')) (hc : Finset.univ.biUnion S = Finset.univ) :
    (bigSep Finset.univ fun t => (iprop(∃ f, ((c : Thread nD τ).loc b) ↦[S t]{fullShare} f) : sProp 𝕄)) ⊢ anyBuf c b := by
  refine (BI.bigSep_exists_pi Finset.univ fun t f => (((c : Thread nD τ).loc b) ↦[S t]{fullShare} f : sProp 𝕄)).trans ?_
  iintro ⟨%fs, H⟩
  ihave H := (pointsTo_biUnion_join Finset.univ S fs (fs default) fun t _ t' _ => hd t t') $$ H
  icases H with ⟨%g, -, H⟩
  rw [hc]
  iexists g; iexact H

/-! ## The buffers the partners' pieces land in -/

theorem rSlot_set0 (rb : Fin 2) (r : Fin 3) : (rSlot rb r 0).view.set = (rcR384 rb r).set := (View.set_reshape _ _).trans (View.set_slice_whole _ _)
theorem rSlot_set1 (rb : Fin 2) (r : Fin 3) : (rSlot rb r 1).view.set = (rcR384 rb r).set := (View.set_reshape _ _).trans (View.set_slice_whole _ _)
theorem rSlot_set2 (rb : Fin 2) (r : Fin 3) : (rSlot rb r 2).view.set = (rcR256 rb r).set := (View.set_reshape _ _).trans (View.set_slice_whole _ _)

theorem forall_fin3 {P : Fin 3 → Prop} : (∀ a, P a) ↔ P 0 ∧ P 1 ∧ P 2 :=
  ⟨fun h => ⟨h 0, h 1, h 2⟩, fun h a => by fin_cases a <;> simp_all⟩

theorem mem_rcR384 (rb : Fin 2) (r : Fin 3) (i : S3x256x384.Idx) : i ∈ (rcR384 rb r).set
    ↔ (r.val ≤ (i 0).val ∧ (i 0).val < r.val + 1) ∧ (rb.val * 128 ≤ (i 1).val ∧ (i 1).val < rb.val * 128 + 128) ∧ 0 ≤ (i 2).val ∧ (i 2).val < 0 + 384 := by
  rw [Rect.mem_set_unit]; exact forall_fin3
theorem mem_rcR256 (rb : Fin 2) (r : Fin 3) (i : S3x256x256.Idx) : i ∈ (rcR256 rb r).set
    ↔ (r.val ≤ (i 0).val ∧ (i 0).val < r.val + 1) ∧ (rb.val * 128 ≤ (i 1).val ∧ (i 1).val < rb.val * 128 + 128) ∧ 0 ≤ (i 2).val ∧ (i 2).val < 0 + 256 := by
  rw [Rect.mem_set_unit]; exact forall_fin3

theorem rcR384_disjoint (t t' : Fin 2 × Fin 3) (h : t ≠ t') : Disjoint (rcR384 t.1 t.2).set (rcR384 t'.1 t'.2).set := by
  rw [Finset.disjoint_left]
  intro i hi hi'
  rw [mem_rcR384] at hi hi'
  exact h (Prod.ext (Fin.ext (by omega)) (Fin.ext (by omega)))
theorem rcR256_disjoint (t t' : Fin 2 × Fin 3) (h : t ≠ t') : Disjoint (rcR256 t.1 t.2).set (rcR256 t'.1 t'.2).set := by
  rw [Finset.disjoint_left]
  intro i hi hi'
  rw [mem_rcR256] at hi hi'
  exact h (Prod.ext (Fin.ext (by omega)) (Fin.ext (by omega)))
theorem rcR384_cover : (Finset.univ : Finset (Fin 2 × Fin 3)).biUnion (fun t => (rcR384 t.1 t.2).set) = Finset.univ := by
  refine Finset.eq_univ_iff_forall.mpr fun i => ?_
  have b0 : (i 0).val < 3 := (i 0).isLt
  have b1 : (i 1).val < 256 := (i 1).isLt
  have b2 : (i 2).val < 384 := (i 2).isLt
  refine Finset.mem_biUnion.mpr ⟨(⟨(i 1).val / 128, by omega⟩, ⟨(i 0).val, b0⟩), Finset.mem_univ _, ?_⟩
  rw [mem_rcR384]
  show ((i 0).val ≤ (i 0).val ∧ (i 0).val < (i 0).val + 1) ∧ ((i 1).val / 128 * 128 ≤ (i 1).val ∧ (i 1).val < (i 1).val / 128 * 128 + 128)
    ∧ 0 ≤ (i 2).val ∧ (i 2).val < 0 + 384
  omega
theorem rcR256_cover : (Finset.univ : Finset (Fin 2 × Fin 3)).biUnion (fun t => (rcR256 t.1 t.2).set) = Finset.univ := by
  refine Finset.eq_univ_iff_forall.mpr fun i => ?_
  have b0 : (i 0).val < 3 := (i 0).isLt
  have b1 : (i 1).val < 256 := (i 1).isLt
  have b2 : (i 2).val < 256 := (i 2).isLt
  refine Finset.mem_biUnion.mpr ⟨(⟨(i 1).val / 128, by omega⟩, ⟨(i 0).val, b0⟩), Finset.mem_univ _, ?_⟩
  rw [mem_rcR256]
  show ((i 0).val ≤ (i 0).val ∧ (i 0).val < (i 0).val + 1) ∧ ((i 1).val / 128 * 128 ≤ (i 1).val ∧ (i 1).val < (i 1).val / 128 * 128 + 128)
    ∧ 0 ≤ (i 2).val ∧ (i 2).val < 0 + 256
  omega

/-- The six slots for piece `p`. -/
def slots (c : Dev nD) (p : Fin 3) : sProp 𝕄 := bigSep Finset.univ fun t : Fin 2 × Fin 3 => some' c (rSlot t.1 t.2 p)

theorem some_slot0 (c : Dev nD) (rb : Fin 2) (r : Fin 3) : (some' c (rSlot rb r 0) : sProp 𝕄)
    = iprop(∃ f, ((c : Thread nD τ).loc cc0_scratch10) ↦[(rcR384 rb r).set]{fullShare} f) := by
  show iprop(∃ f, ((c : Thread nD τ).loc cc0_scratch10) ↦[(rSlot rb r 0).view.set]{fullShare} f) = _
  rw [rSlot_set0]
theorem some_slot1 (c : Dev nD) (rb : Fin 2) (r : Fin 3) : (some' c (rSlot rb r 1) : sProp 𝕄)
    = iprop(∃ f, ((c : Thread nD τ).loc cc0_scratch11) ↦[(rcR384 rb r).set]{fullShare} f) := by
  show iprop(∃ f, ((c : Thread nD τ).loc cc0_scratch11) ↦[(rSlot rb r 1).view.set]{fullShare} f) = _
  rw [rSlot_set1]
theorem some_slot2 (c : Dev nD) (rb : Fin 2) (r : Fin 3) : (some' c (rSlot rb r 2) : sProp 𝕄)
    = iprop(∃ f, ((c : Thread nD τ).loc cc0_scratch12) ↦[(rcR256 rb r).set]{fullShare} f) := by
  show iprop(∃ f, ((c : Thread nD τ).loc cc0_scratch12) ↦[(rSlot rb r 2).view.set]{fullShare} f) = _
  rw [rSlot_set2]

theorem slots_split0 (c : Dev nD) : (anyBuf c cc0_scratch10 : sProp 𝕄) ⊢ slots c 0 := by
  unfold slots; simp only [some_slot0]; exact any_split c cc0_scratch10 _ rcR384_disjoint rcR384_cover
theorem slots_split1 (c : Dev nD) : (anyBuf c cc0_scratch11 : sProp 𝕄) ⊢ slots c 1 := by
  unfold slots; simp only [some_slot1]; exact any_split c cc0_scratch11 _ rcR384_disjoint rcR384_cover
theorem slots_split2 (c : Dev nD) : (anyBuf c cc0_scratch12 : sProp 𝕄) ⊢ slots c 2 := by
  unfold slots; simp only [some_slot2]; exact any_split c cc0_scratch12 _ rcR256_disjoint rcR256_cover
theorem slots_join0 (c : Dev nD) : slots c 0 ⊢ (anyBuf c cc0_scratch10 : sProp 𝕄) := by
  unfold slots; simp only [some_slot0]; exact any_join c cc0_scratch10 _ rcR384_disjoint rcR384_cover
theorem slots_join1 (c : Dev nD) : slots c 1 ⊢ (anyBuf c cc0_scratch11 : sProp 𝕄) := by
  unfold slots; simp only [some_slot1]; exact any_join c cc0_scratch11 _ rcR384_disjoint rcR384_cover
theorem slots_join2 (c : Dev nD) : slots c 2 ⊢ (anyBuf c cc0_scratch12 : sProp 𝕄) := by
  unfold slots; simp only [some_slot2]; exact any_join c cc0_scratch12 _ rcR256_disjoint rcR256_cover

/-- The exchanges by piece, row block and round. -/
def exE : Fin 3 × (Fin 2 × Fin 3) ≃ Fin 18 where
  toFun t := ⟨t.2.2.val * 6 + t.2.1.val * 3 + t.1.val, by omega⟩
  invFun e := (⟨e.val % 3, by omega⟩, (⟨e.val / 3 % 2, by omega⟩, ⟨e.val / 6, by omega⟩))
  left_inv t := by
    obtain ⟨p, rb, r⟩ := t
    refine Prod.ext (Fin.ext ?_) (Prod.ext (Fin.ext ?_) (Fin.ext ?_))
    · show (r.val * 6 + rb.val * 3 + p.val) % 3 = p.val; omega
    · show (r.val * 6 + rb.val * 3 + p.val) / 3 % 2 = rb.val; omega
    · show (r.val * 6 + rb.val * 3 + p.val) / 6 = r.val; omega
  right_inv e := Fin.ext (by show e.val / 6 * 6 + e.val / 3 % 2 * 3 + e.val % 3 = e.val; omega)

theorem some_dst (c : Dev nD) (p : Fin 3) (rb : Fin 2) (r : Fin 3) : (some' c (dst (exE (p, (rb, r)))) : sProp 𝕄) = some' c (rSlot rb r p) := by
  fin_cases p <;> fin_cases rb <;> fin_cases r <;> rfl

/-- Where all eighteen transfers land. -/
theorem dst_all (c : Dev nD) : (bigSep Finset.univ fun e => (some' c (dst e) : sProp 𝕄)) = iprop(slots c 0 ∗ slots c 1 ∗ slots c 2) := by
  rw [bigSep_univ_equiv exE, bigSep_univ_prod, bigSep_univ_eq_bigSepL [0, 1, 2] (by decide) (by decide)]
  have h : ∀ p : Fin 3, (bigSep Finset.univ fun t : Fin 2 × Fin 3 => (some' c (dst (exE (p, t))) : sProp 𝕄)) = slots c p := fun p =>
    bigSep_congr fun t _ => some_dst c p t.1 t.2
  show iprop((bigSep Finset.univ fun t : Fin 2 × Fin 3 => (some' c (dst (exE (0, t))) : sProp 𝕄))
    ∗ (bigSep Finset.univ fun t : Fin 2 × Fin 3 => (some' c (dst (exE (1, t))) : sProp 𝕄))
    ∗ (bigSep Finset.univ fun t : Fin 2 × Fin 3 => (some' c (dst (exE (2, t))) : sProp 𝕄))) = _
  rw [h 0, h 1, h 2]

theorem landings (c : Dev nD) : (bigSep Finset.univ fun e => (some' c (dst e) : sProp 𝕄)) ⊢ iprop(landing c 0 ∗ landing c 1 ∗ landing c 2) := by
  rw [bigSep_fiberwise Finset.univ axOf, show Finset.univ.image axOf = Finset.univ by decide, bigSep_univ_eq_bigSepL [0, 1, 2] (by decide) (by decide)]
  exact BI.Entails.refl _

/-- The three buffers the partners' pieces land in. -/
def RecvBufs (c : Dev nD) : sProp 𝕄 := iprop(anyBuf c cc0_scratch10 ∗ anyBuf c cc0_scratch11 ∗ anyBuf c cc0_scratch12)

theorem recv_split (c : Dev nD) : (RecvBufs c : sProp 𝕄) ⊢ iprop(landing c 0 ∗ landing c 1 ∗ landing c 2) := by
  refine BI.Entails.trans ?_ (landings c)
  rw [dst_all]
  unfold RecvBufs
  exact BI.sep_mono (slots_split0 c) (BI.sep_mono (slots_split1 c) (slots_split2 c))

theorem recv_join (X : Fin 2 → (p : Fin 3) → Dev nD → FVec F (sP p) .bf16) (c : Dev nD) :
    (bigSep Finset.univ fun e => (Done X e c : sProp 𝕄))
      ⊢ iprop((bigSep Finset.univ fun e => iprop(semVal (sendCell e c) 0 ∗ semVal (recvCell e c) 0)) ∗ RecvBufs c) := by
  have h : (bigSep Finset.univ fun e => (Done X e c : sProp 𝕄))
      ⊢ bigSep Finset.univ fun e => iprop((semVal (sendCell e c) 0 ∗ semVal (recvCell e c) 0) ∗ some' c (dst e)) := by
    have one (e : Fin 18) : (Done X e c : sProp 𝕄) ⊢ iprop((semVal (sendCell e c) 0 ∗ semVal (recvCell e c) 0) ∗ some' c (dst e)) := by
      unfold Done owns
      iintro ⟨H1, H2, ⟨%f, -, H3⟩⟩
      isplitl [H1 H2]
      · isplitl [H1]; · iexact H1
        iexact H2
      iexists f; iexact H3
    exact bigSep_mono fun e _ => one e
  refine h.trans ?_
  rw [bigSep_sep', dst_all]
  refine sep_mono_right ?_
  unfold RecvBufs
  exact BI.sep_mono (slots_join0 c) (BI.sep_mono (slots_join1 c) (slots_join2 c))

/-! ## The buffers the pieces are sent from -/

theorem sSlot_set0 (rb : Fin 2) : (sSlot rb 0).view.set = (rcS384 rb).set := View.set_slice_whole _ _
theorem sSlot_set1 (rb : Fin 2) : (sSlot rb 1).view.set = (rcS384 rb).set := View.set_slice_whole _ _
theorem sSlot_set2 (rb : Fin 2) : (sSlot rb 2).view.set = (rcS256 rb).set := View.set_slice_whole _ _

theorem mem_rcS384 (rb : Fin 2) (i : S256x384.Idx) : i ∈ (rcS384 rb).set
    ↔ (rb.val * 128 ≤ (i 0).val ∧ (i 0).val < rb.val * 128 + 128) ∧ 0 ≤ (i 1).val ∧ (i 1).val < 0 + 384 := by
  rw [Rect.mem_set_unit]; exact Fin.forall_fin_two
theorem mem_rcS256 (rb : Fin 2) (i : S256x256.Idx) : i ∈ (rcS256 rb).set
    ↔ (rb.val * 128 ≤ (i 0).val ∧ (i 0).val < rb.val * 128 + 128) ∧ 0 ≤ (i 1).val ∧ (i 1).val < 0 + 256 := by
  rw [Rect.mem_set_unit]; exact Fin.forall_fin_two

theorem rcS384_disjoint (t t' : Fin 2) (h : t ≠ t') : Disjoint (rcS384 t).set (rcS384 t').set := by
  rw [Finset.disjoint_left]
  intro i hi hi'
  rw [mem_rcS384] at hi hi'
  exact h (Fin.ext (by omega))
theorem rcS256_disjoint (t t' : Fin 2) (h : t ≠ t') : Disjoint (rcS256 t).set (rcS256 t').set := by
  rw [Finset.disjoint_left]
  intro i hi hi'
  rw [mem_rcS256] at hi hi'
  exact h (Fin.ext (by omega))
theorem rcS384_cover : (Finset.univ : Finset (Fin 2)).biUnion (fun t => (rcS384 t).set) = Finset.univ := by
  refine Finset.eq_univ_iff_forall.mpr fun i => ?_
  have b0 : (i 0).val < 256 := (i 0).isLt
  have b1 : (i 1).val < 384 := (i 1).isLt
  refine Finset.mem_biUnion.mpr ⟨⟨(i 0).val / 128, by omega⟩, Finset.mem_univ _, ?_⟩
  rw [mem_rcS384]
  show ((i 0).val / 128 * 128 ≤ (i 0).val ∧ (i 0).val < (i 0).val / 128 * 128 + 128) ∧ 0 ≤ (i 1).val ∧ (i 1).val < 0 + 384
  omega
theorem rcS256_cover : (Finset.univ : Finset (Fin 2)).biUnion (fun t => (rcS256 t).set) = Finset.univ := by
  refine Finset.eq_univ_iff_forall.mpr fun i => ?_
  have b0 : (i 0).val < 256 := (i 0).isLt
  have b1 : (i 1).val < 256 := (i 1).isLt
  refine Finset.mem_biUnion.mpr ⟨⟨(i 0).val / 128, by omega⟩, Finset.mem_univ _, ?_⟩
  rw [mem_rcS256]
  show ((i 0).val / 128 * 128 ≤ (i 0).val ∧ (i 0).val < (i 0).val / 128 * 128 + 128) ∧ 0 ≤ (i 1).val ∧ (i 1).val < 0 + 256
  omega

theorem some_src0 (c : Dev nD) (rb : Fin 2) : (some' c (sSlot rb 0) : sProp 𝕄)
    = iprop(∃ f, ((c : Thread nD τ).loc cc0_scratch7) ↦[(rcS384 rb).set]{fullShare} f) := by
  show iprop(∃ f, ((c : Thread nD τ).loc cc0_scratch7) ↦[(sSlot rb 0).view.set]{fullShare} f) = _
  rw [sSlot_set0]
theorem some_src1 (c : Dev nD) (rb : Fin 2) : (some' c (sSlot rb 1) : sProp 𝕄)
    = iprop(∃ f, ((c : Thread nD τ).loc cc0_scratch8) ↦[(rcS384 rb).set]{fullShare} f) := by
  show iprop(∃ f, ((c : Thread nD τ).loc cc0_scratch8) ↦[(sSlot rb 1).view.set]{fullShare} f) = _
  rw [sSlot_set1]
theorem some_src2 (c : Dev nD) (rb : Fin 2) : (some' c (sSlot rb 2) : sProp 𝕄)
    = iprop(∃ f, ((c : Thread nD τ).loc cc0_scratch9) ↦[(rcS256 rb).set]{fullShare} f) := by
  show iprop(∃ f, ((c : Thread nD τ).loc cc0_scratch9) ↦[(sSlot rb 2).view.set]{fullShare} f) = _
  rw [sSlot_set2]

theorem bigSep_fin2 (Φ : Fin 2 → sProp 𝕄) : bigSep Finset.univ Φ = iprop(Φ 0 ∗ Φ 1) := bigSep_univ_eq_bigSepL [0, 1] (by decide) (by decide) Φ

/-- The three buffers the pieces are sent from. -/
def SendBufs (c : Dev nD) : sProp 𝕄 := iprop(anyBuf c cc0_scratch7 ∗ anyBuf c cc0_scratch8 ∗ anyBuf c cc0_scratch9)

theorem send_split (c : Dev nD) : (SendBufs c : sProp 𝕄) ⊢ Slots c := by
  unfold SendBufs Slots
  have h0 := any_split (F := F) c cc0_scratch7 _ rcS384_disjoint rcS384_cover
  have h1 := any_split (F := F) c cc0_scratch8 _ rcS384_disjoint rcS384_cover
  have h2 := any_split (F := F) c cc0_scratch9 _ rcS256_disjoint rcS256_cover
  rw [bigSep_fin2] at h0 h1 h2
  rw [some_src0, some_src0, some_src1, some_src1, some_src2, some_src2]
  iintro ⟨H0, H1, H2⟩
  ihave H0 := h0 $$ H0
  ihave H1 := h1 $$ H1
  ihave H2 := h2 $$ H2
  icases H0 with ⟨H00, H10⟩
  icases H1 with ⟨H01, H11⟩
  icases H2 with ⟨H02, H12⟩
  isplitl [H00]; · iexact H00
  isplitl [H01]; · iexact H01
  isplitl [H02]; · iexact H02
  isplitl [H10]; · iexact H10
  isplitl [H11]; · iexact H11
  iexact H12

theorem send_join (c : Dev nD) : (Slots c : sProp 𝕄) ⊢ SendBufs c := by
  unfold SendBufs Slots
  have h0 := any_join (F := F) c cc0_scratch7 _ rcS384_disjoint rcS384_cover
  have h1 := any_join (F := F) c cc0_scratch8 _ rcS384_disjoint rcS384_cover
  have h2 := any_join (F := F) c cc0_scratch9 _ rcS256_disjoint rcS256_cover
  rw [bigSep_fin2] at h0 h1 h2
  rw [some_src0, some_src0, some_src1, some_src1, some_src2, some_src2]
  iintro ⟨H00, H01, H02, H10, H11, H12⟩
  isplitl [H00 H10]
  · iapply h0
    isplitl [H00]; · iexact H00
    iexact H10
  isplitl [H01 H11]
  · iapply h1
    isplitl [H01]; · iexact H01
    iexact H11
  iapply h2
  isplitl [H02]; · iexact H02
  iexact H12

/-! ## The staged result -/

theorem oPiece_set0 (rb : Fin 2) : (oPiece rb 0).view.set = (rcO384 rb 0).set := View.set_slice_whole _ _
theorem oPiece_set1 (rb : Fin 2) : (oPiece rb 1).view.set = (rcO384 rb 1).set := View.set_slice_whole _ _
theorem oPiece_set2 (rb : Fin 2) : (oPiece rb 2).view.set = (rcO256 rb).set := View.set_slice_whole _ _
theorem some_out0 (c : Dev nD) (rb : Fin 2) : (some' c (oPiece rb 0) : sProp 𝕄)
    = iprop(∃ f, ((c : Thread nD τ).loc cc0_scratch5) ↦[(rcO384 rb 0).set]{fullShare} f) := by
  show iprop(∃ f, ((c : Thread nD τ).loc cc0_scratch5) ↦[(oPiece rb 0).view.set]{fullShare} f) = _
  rw [oPiece_set0]
theorem some_out1 (c : Dev nD) (rb : Fin 2) : (some' c (oPiece rb 1) : sProp 𝕄)
    = iprop(∃ f, ((c : Thread nD τ).loc cc0_scratch5) ↦[(rcO384 rb 1).set]{fullShare} f) := by
  show iprop(∃ f, ((c : Thread nD τ).loc cc0_scratch5) ↦[(oPiece rb 1).view.set]{fullShare} f) = _
  rw [oPiece_set1]
theorem some_out2 (c : Dev nD) (rb : Fin 2) : (some' c (oPiece rb 2) : sProp 𝕄)
    = iprop(∃ f, ((c : Thread nD τ).loc cc0_scratch5) ↦[(rcO256 rb).set]{fullShare} f) := by
  show iprop(∃ f, ((c : Thread nD τ).loc cc0_scratch5) ↦[(oPiece rb 2).view.set]{fullShare} f) = _
  rw [oPiece_set2]

theorem out_split (c : Dev nD) : (anyBuf c cc0_scratch5 : sProp 𝕄) ⊢ Outs c := by
  unfold Outs
  have h := any_split (F := F) c cc0_scratch5 _ pieceRect_disjoint pieceRect_cover
  rw [bigSep_univ_eq_bigSepL [(0, 0), (0, 1), (0, 2), (1, 0), (1, 1), (1, 2)] (by decide) (by decide)] at h
  rw [some_out0, some_out0, some_out1, some_out1, some_out2, some_out2]
  exact h

theorem rcO1024_disjoint (t t' : Fin 2) (h : t ≠ t') : Disjoint (rcO1024 t).set (rcO1024 t').set := by
  rw [Finset.disjoint_left]
  intro i hi hi'
  rw [mem_rc1024] at hi hi'
  exact h (Fin.ext (by omega))
theorem rcO1024_cover : (Finset.univ : Finset (Fin 2)).biUnion (fun t => (rcO1024 t).set) = Finset.univ := by
  refine Finset.eq_univ_iff_forall.mpr fun i => ?_
  have b1 : (i 1).val < 1024 := (i 1).isLt
  refine Finset.mem_biUnion.mpr ⟨⟨(i 0).val / 128, row_lt i⟩, Finset.mem_univ _, ?_⟩
  rw [mem_rc1024]
  show ((i 0).val / 128 * 128 ≤ (i 0).val ∧ (i 0).val < (i 0).val / 128 * 128 + 128) ∧ 0 ≤ (i 1).val ∧ (i 1).val < 0 + 1024
  omega

theorem oRow_set (rb : Fin 2) : (oRow rb).view.set = (rcO1024 rb).set := View.set_slice_whole _ _

theorem staged_join (I : Dev nD → Inp F) (c : Dev nD) : (Staged I c : sProp 𝕄) ⊢ anyBuf c cc0_scratch5 := by
  have h := any_join (F := F) c cc0_scratch5 _ rcO1024_disjoint rcO1024_cover
  rw [bigSep_fin2, ← oRow_set, ← oRow_set] at h
  have one : (Staged I c : sProp 𝕄) ⊢ iprop((∃ f, ((c : Thread nD τ).loc cc0_scratch5) ↦[(oRow 0).view.set]{fullShare} f)
      ∗ ∃ f, ((c : Thread nD τ).loc cc0_scratch5) ↦[(oRow 1).view.set]{fullShare} f) := by
    unfold Staged owns
    iintro ⟨⟨%f, -, H0⟩, ⟨%g, -, H1⟩⟩
    isplitl [H0]
    · iexists f; iexact H0
    iexists g; iexact H1
  exact one.trans h

/-! ## The result's memory -/

theorem hRow_set (rb : Fin 2) : (hRow rb).view.set = (rcH1024 rb).set := (View.set_reshape _ _).trans (View.set_slice_whole _ _)

theorem mem_rcH (rb : Fin 2) (i : S1x256x1024.Idx) : i ∈ (rcH1024 rb).set
    ↔ (0 ≤ (i 0).val ∧ (i 0).val < 0 + 1) ∧ (rb.val * 128 ≤ (i 1).val ∧ (i 1).val < rb.val * 128 + 128) ∧ 0 ≤ (i 2).val ∧ (i 2).val < 0 + 1024 := by
  rw [Rect.mem_set_unit]; exact forall_fin3
theorem rcH_disjoint (t t' : Fin 2) (h : t ≠ t') : Disjoint (rcH1024 t).set (rcH1024 t').set := by
  rw [Finset.disjoint_left]
  intro i hi hi'
  rw [mem_rcH] at hi hi'
  exact h (Fin.ext (by omega))
theorem rcH_cover : (Finset.univ : Finset (Fin 2)).biUnion (fun t => (rcH1024 t).set) = Finset.univ := by
  refine Finset.eq_univ_iff_forall.mpr fun i => ?_
  have b0 : (i 0).val < 1 := (i 0).isLt
  have b1 : (i 1).val < 256 := (i 1).isLt
  have b2 : (i 2).val < 1024 := (i 2).isLt
  refine Finset.mem_biUnion.mpr ⟨⟨(i 1).val / 128, by omega⟩, Finset.mem_univ _, ?_⟩
  rw [mem_rcH]
  show (0 ≤ (i 0).val ∧ (i 0).val < 0 + 1) ∧ ((i 1).val / 128 * 128 ≤ (i 1).val ∧ (i 1).val < (i 1).val / 128 * 128 + 128) ∧ 0 ≤ (i 2).val ∧ (i 2).val < 0 + 1024
  omega

theorem rows_split (c : Dev nD) : (anyBuf c main_v1 : sProp 𝕄) ⊢ iprop(anyRow 0 c ∗ anyRow 1 c) := by
  have h := any_split (F := F) c main_v1 _ rcH_disjoint rcH_cover
  rw [bigSep_fin2, ← hRow_set, ← hRow_set] at h
  exact h

end Cert.Exchange

end
-- ==== Proof.Ghost.lean ====
/-
The launch's ghost state: every device's barrier, send and receive cells are allocated for all devices at once, and
each device gets the tokens of the duties it pays at its neighbours' cells.
-/
module

public import proofs.«01_k».proof.Proof.Buffers
public import proofs.«01_k».proof.Proof.Gen.KernelIdeal.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Fin 2 → (p : Fin 3) → Dev nD → FVec F (sP p) .bf16)

/-! ## Cells and tokens -/

/-- The semaphores the kernel allocates: seven for its local copies, a send and a receive one per exchange. -/
abbrev OI : Type := Fin 7 ⊕ (Fin 18 ⊕ Fin 18)
def osem : OI → SemLoc sig
  | .inl i => .dma (inS i)
  | .inr (.inl e) => .dma (sendS e)
  | .inr (.inr e) => .dma (recvS e)

theorem inS_inj {i j : Fin 7} (h : inS i = inS j) : i = j := by revert i j; decide +kernel
theorem inS_ne_sendS (i : Fin 7) (e : Fin 18) : inS i ≠ sendS e := fun h => by
  have := congrArg Fin.val h; simp only [inS, sendS] at this; omega
theorem inS_ne_recvS (i : Fin 7) (e : Fin 18) : inS i ≠ recvS e := fun h => by
  have := congrArg Fin.val h; simp only [inS, recvS] at this; omega

theorem osem_inj : Function.Injective osem := by
  rintro (i | e | e) (j | e' | e') h <;> have h := SemLoc.dma.inj h
  · rw [inS_inj h]
  · exact absurd h (inS_ne_sendS i e')
  · exact absurd h (inS_ne_recvS i e')
  · exact absurd h.symm (inS_ne_sendS j e)
  · rw [sendS_inj h]
  · exact absurd h (sendS_ne_recvS e e')
  · exact absurd h.symm (inS_ne_recvS j e)
  · exact absurd h.symm (sendS_ne_recvS e' e)
  · rw [recvS_inj h]

theorem smOf_inj : Function.Injective smOf := by
  rintro (⟨⟩ | e | e) (⟨⟩ | e' | e') h
  · rfl
  · cases h
  · cases h
  · cases h
  · rw [sendS_inj (SemLoc.dma.inj h)]
  · exact absurd (SemLoc.dma.inj h) (sendS_ne_recvS e e')
  · cases h
  · exact absurd (SemLoc.dma.inj h).symm (sendS_ne_recvS e' e)
  · rw [recvS_inj (SemLoc.dma.inj h)]

theorem dev_of_cell {c d : Dev nD} {s s' : SemLoc sig} (h : ((c : Thread nD τ), s) = (((d : Thread nD τ), s') : GSem nD τ sig)) : c = d :=
  congrArg (fun g : GSem nD τ sig => g.1.1) h

theorem kcell_inj : Function.Injective kcell := fun ⟨c, k⟩ ⟨c', k'⟩ h => by
  have h1 : c = c' := dev_of_cell h
  have h2 : k = k' := smOf_inj (congrArg Prod.snd h)
  rw [h1, h2]

def exCells : Finset (GSem nD τ sig) := Finset.univ.map ⟨kcell, kcell_inj⟩

/-- The duties of a device's own cells: the barrier's three, one at every send and every receive cell. -/
abbrev TI : Type := Fin 3 ⊕ (Fin 18 ⊕ Fin 18)
def tokOf (ct : Dev nD × TI) : GSem nD τ sig × ℕ × Fin 3 := match ct.2 with
  | .inl a => (barCell ct.1, 0, a)
  | .inr (.inl e) => (sendCell e ct.1, 0, 0)
  | .inr (.inr e) => (recvCell e ct.1, 0, 0)

theorem tokOf_inj : Function.Injective tokOf := by
  rintro ⟨c, k⟩ ⟨c', k'⟩ h
  have hc : c = c' := by
    have := congrArg (fun x : GSem nD τ sig × ℕ × Fin 3 => x.1.1.1) h
    rcases k with a | e | e <;> rcases k' with a' | e' | e' <;> exact this
  subst hc
  have hs := congrArg (fun x : GSem nD τ sig × ℕ × Fin 3 => x.1.2) h
  have ha := congrArg (fun x : GSem nD τ sig × ℕ × Fin 3 => x.2.2) h
  rcases k with a | e | e <;> rcases k' with a' | e' | e'
  · rw [show a = a' from ha]
  · cases hs
  · cases hs
  · cases hs
  · rw [sendS_inj (SemLoc.dma.inj hs)]
  · exact absurd (SemLoc.dma.inj hs) (sendS_ne_recvS e e')
  · cases hs
  · exact absurd (SemLoc.dma.inj hs).symm (sendS_ne_recvS e' e)
  · rw [recvS_inj (SemLoc.dma.inj hs)]

def exToks : Finset (GSem nD τ sig × ℕ × Fin 3) := Finset.univ.map ⟨tokOf, tokOf_inj⟩

def u₀ : UU := (initOf (Pipeline.cells cfgs cellOf_inj) (Pipeline.launchToks cfgs cellOf_inj), (initOf exCells exToks, 1))

theorem ownU_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem bigSep_CI (Φ : CI → sProp 𝕄) :
    bigSep Finset.univ Φ = iprop(Φ ciB ∗ bigSep Finset.univ (fun e => Φ (ciS e)) ∗ bigSep Finset.univ (fun e => Φ (ciR e))) := by
  rw [bigSep_univ_sum, bigSep_univ_sum, Finset.univ_unique, bigSep_singleton]
  rfl
theorem bigSep_sum3 {A : Type} [Fintype A] (Φ : A ⊕ (Fin 18 ⊕ Fin 18) → sProp 𝕄) :
    bigSep Finset.univ Φ = iprop(bigSep Finset.univ (fun a => Φ (.inl a)) ∗ bigSep Finset.univ (fun e => Φ (.inr (.inl e)))
      ∗ bigSep Finset.univ (fun e => Φ (.inr (.inr e)))) := by
  rw [bigSep_univ_sum, bigSep_univ_sum]
  rfl
theorem bigSep_three (Φ : Fin 3 → sProp 𝕄) : bigSep Finset.univ Φ = iprop(Φ 0 ∗ Φ 1 ∗ Φ 2) :=
  bigSep_univ_eq_bigSepL [0, 1, 2] (by decide) (by decide) Φ

/-! ## What each device gets -/

/-- The tokens of a device's own cells, -/
def toks (c : Dev nD) : sProp 𝕄 :=
  iprop(bigSep Finset.univ (fun a : Fin 3 => dutyTok ER (barCell c) 0 a) ∗ bigSep Finset.univ (fun e : Fin 18 => dutyTok ER (sendCell e c) 0 0)
    ∗ bigSep Finset.univ (fun e : Fin 18 => dutyTok ER (recvCell e c) 0 0))
/-- and of the duties it pays. -/
def payToks (c : Dev nD) : sProp 𝕄 :=
  iprop(bigSep Finset.univ (fun a : Fin 3 => dutyTok ER (barCell (pe a c)) 0 a) ∗ bigSep Finset.univ (fun e : Fin 18 => dutyTok ER (sendCell e c) 0 0)
    ∗ bigSep Finset.univ (fun e : Fin 18 => dutyTok ER (recvCell e (peer e c)) 0 0))

/-- What the initial element deals device `c`. -/
def G (c : Dev nD) : sProp 𝕄 :=
  iprop((bigSep Finset.univ fun k : CI => roundState ER (Rd X) (kcell (c, k)) 0)
    ∗ (bigSep Finset.univ fun k : CI => iprop(atPos ER (kcell (c, k)) 0 ∅ 0 ∗ reached ER (kcell (c, k)) 0)) ∗ toks c)

/-- The seven semaphores of the local copies. -/
def ins (c : Dev nD) : sProp 𝕄 := bigSep Finset.univ fun i : Fin 7 => semVal ((c : Thread nD τ), .dma (inS i)) 0

/-- `Early` without the credit, -/
def EarlyG (K : Dev nD × CI → ℕ) (e : Fin 18) (c : Dev nD) : sProp 𝕄 :=
  iprop(recs X K e c ∗ dutyTok ER (sendCell e c) 0 0 ∗ dutyTok ER (recvCell e (peer e c)) 0 0
    ∗ atPos ER (sendCell e c) 0 ∅ 0 ∗ atPos ER (recvCell e c) 0 ∅ 0)
/-- and `BarTok`. -/
def BarG (K : Dev nD × CI → ℕ) (c : Dev nD) : sProp 𝕄 :=
  iprop(cellInv ER (Rd X) (K (c, ciB)) (barCell c) ∗ atPos ER (barCell c) 0 ∅ 0)

/-- What device `c` holds once the cells are allocated. -/
def G' (c : Dev nD) : sProp 𝕄 :=
  iprop(∃ K, bigSep Finset.univ (fun a => SigTok X K a c) ∗ BarG X K c ∗ bigSep Finset.univ (fun e => EarlyG X K e c) ∗ ins c)

theorem fund_cells : BI.own (ER (initOf exCells exToks)) ⊢ (|==> bigSep Finset.univ (G X) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_sum3]; rfl
  iintro HX
  imod (Rounds.fund ER (Rd X) exCells exToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(ins c ∗ bigSep Finset.univ (fun e : Fin 18 => semVal (sendCell e c) 0) ∗ bigSep Finset.univ (fun e : Fin 18 => semVal (recvCell e c) 0)) := by
  unfold Pipeline.ownSems0
  rw [bigSep_sum3]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ ins c) : sProp 𝕄) := by
  rw [ownSems0_eq, unscopedSems0_eq, bigSep_CI]
  iintro ⟨⟨HI, HS, HV⟩, HB⟩
  isplitr [HI]; rotate_left; · iexact HI
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c ∗ ins c) := by
  unfold G
  iintro ⟨Hos, Hus, Hst, Hat, Htok⟩
  ihave Hv := (sems_split (F := F) c) $$ [Hos Hus]
  · isplitl [Hos] <;> iassumption
  icases Hv with ⟨Hv, Hi⟩
  imod (show iprop((bigSep Finset.univ fun k : CI => semVal (kcell (c, k)) 0) ∗ bigSep Finset.univ fun k : CI => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

def records (K : Dev nD × CI → ℕ) : sProp 𝕄 :=
  iprop((bigSep Finset.univ fun ck : Dev nD × CI => cellInv ER (Rd X) (K ck) (kcell ck))
    ∗ bigSep Finset.univ fun ck : Dev nD × CI => reached ER (kcell ck) 0)
instance records_persistent (K : Dev nD × CI → ℕ) : BI.Persistent (records X K) := by unfold records; infer_instance

theorem inv_at (K : Dev nD × CI → ℕ) (ck : Dev nD × CI) : records X K ⊢ cellInv ER (Rd X) (K ck) (kcell ck) := by
  have h : (bigSep Finset.univ fun ck : Dev nD × CI => (cellInv ER (Rd X) (K ck) (kcell ck) : sProp 𝕄)) ⊢ cellInv ER (Rd X) (K ck) (kcell ck) :=
    bigSep_elim (Finset.mem_univ ck)
  unfold records
  iintro ⟨HI, -⟩
  iapply h; iexact HI
theorem reached_at (K : Dev nD × CI → ℕ) (ck : Dev nD × CI) : records X K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, HR⟩
  iapply h; iexact HR

theorem recs_intro (K : Dev nD × CI → ℕ) (e : Fin 18) (c : Dev nD) : records X K ⊢ recs X K e c := by
  unfold recs
  iintro #H
  isplitr; · iapply (inv_at X K (c, ciS e)); iexact H
  isplitr; · iapply (reached_at X K (c, ciS e)); iexact H
  isplitr; · iapply (inv_at X K (peer e c, ciR e)); iexact H
  isplitr; · iapply (reached_at X K (peer e c, ciR e)); iexact H
  iapply (inv_at X K (c, ciR e)); iexact H

theorem early_one (K : Dev nD × CI → ℕ) (e : Fin 18) (c : Dev nD) :
    iprop(records X K ∗ dutyTok ER (sendCell e c) 0 0 ∗ dutyTok ER (recvCell e (peer e c)) 0 0
      ∗ atPos ER (sendCell e c) 0 ∅ 0 ∗ atPos ER (recvCell e c) 0 ∅ 0) ⊢ EarlyG X K e c := by
  unfold EarlyG
  iintro ⟨#H, Hr⟩
  isplitr
  · iapply (recs_intro X K e c); iexact H
  iexact Hr

theorem sig_one (K : Dev nD × CI → ℕ) (a : Fin 3) (c : Dev nD) :
    iprop(records X K ∗ dutyTok ER (barCell (pe a c)) 0 a) ⊢ SigTok X K a c := by
  unfold SigTok
  iintro ⟨#H, Hr⟩
  isplitr; · iapply (inv_at X K (pe a c, ciB)); iexact H
  isplitr; · iapply (reached_at X K (pe a c, ciB)); iexact H
  iexact Hr

/-- What is a device's alone. -/
def linear (c : Dev nD) : sProp 𝕄 :=
  iprop((bigSep Finset.univ fun k : CI => atPos ER (kcell (c, k)) 0 ∅ 0) ∗ payToks c ∗ ins c)

theorem ghost_intro (K : Dev nD × CI → ℕ) (c : Dev nD) : iprop(records X K ∗ linear c) ⊢ G' X c := by
  unfold linear payToks G'
  rw [bigSep_CI]
  iintro ⟨#H, ⟨HaB, HaS, HaR⟩, ⟨HtB, HtS, HtR⟩, Hi⟩
  iexists K
  isplitl [HtB]
  · iapply (bigSep_with_persistent (R := records X K) (Φ := fun a : Fin 3 => dutyTok ER (barCell (pe a c)) 0 a) fun a _ => sig_one X K a c)
    isplitr; · iexact H
    iexact HtB
  isplitl [HaB]
  · unfold BarG
    isplitr; · iapply (inv_at X K (c, ciB)); iexact H
    iexact HaB
  isplitr [Hi]
  · iapply (bigSep_with_persistent (R := records X K) (Φ := fun e : Fin 18 => iprop(dutyTok ER (sendCell e c) 0 0 ∗ dutyTok ER (recvCell e (peer e c)) 0 0
      ∗ atPos ER (sendCell e c) 0 ∅ 0 ∗ atPos ER (recvCell e c) 0 ∅ 0)) fun e _ => early_one X K e c)
    isplitr; · iexact H
    rw [bigSep_sep', bigSep_sep', bigSep_sep']
    isplitl [HtS]; · iexact HtS
    isplitl [HtR]; · iexact HtR
    isplitl [HaS]; · iexact HaS
    iexact HaR
  iexact Hi

/-- The tokens dealt to the neighbours that pay. -/
theorem deal {A : Type} [Fintype A] [DecidableEq A] (ax : A → Fin 3) (Φ : A → Dev nD → sProp 𝕄) :
    (bigSep Finset.univ fun c => bigSep Finset.univ fun a => Φ a c) = bigSep Finset.univ fun c => bigSep Finset.univ fun a => Φ a (pe (ax a) c) := by
  let σ : Dev nD × A ≃ Dev nD × A := ⟨fun x => (pe (ax x.2) x.1, x.2), fun x => (pe (ax x.2) x.1, x.2),
    fun x => by simp only [pe_pe], fun x => by simp only [pe_pe]⟩
  rw [← bigSep_univ_prod (fun x : Dev nD × A => Φ x.2 x.1), bigSep_univ_equiv σ, bigSep_univ_prod]
  rfl

theorem toks_around : (bigSep Finset.univ fun c : Dev nD => (toks c : sProp 𝕄)) = bigSep Finset.univ fun c : Dev nD => payToks c := by
  unfold toks payToks
  rw [bigSep_sep', bigSep_sep', bigSep_sep', bigSep_sep',
    deal (fun a : Fin 3 => a) (fun a c => (dutyTok ER (barCell c) 0 a : sProp 𝕄)),
    deal axOf (fun e c => (dutyTok ER (recvCell e c) 0 0 : sProp 𝕄))]

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c ∗ ins c) : sProp 𝕄)
      ⊢ bigSep Finset.univ (G' X) := by
  rw [bigSep_sep', bigSep_sep', bigSep_sep', ← bigSep_univ_prod (fun ck : Dev nD × CI => iprop(∃ κ : ℕ, cellInv ER (Rd X) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok, Hi⟩
  ihave HK := (BI.bigSep_exists_pi Finset.univ (fun (ck : Dev nD × CI) (κ : ℕ) => (cellInv ER (Rd X) κ (kcell ck) : sProp 𝕄))) $$ HI
  icases HK with ⟨%K, #HI⟩
  iapply (bigSep_with_persistent (R := records X K) (Φ := linear) fun c _ => ghost_intro X K c)
  isplitr
  · unfold records; isplitl; · iexact HI
    iexact HR
  · unfold linear
    rw [bigSep_sep', bigSep_sep']
    isplitl [Hat]; · iexact Hat
    isplitl [Htok]; · iexact Htok
    iexact Hi

/-- The step at launch, for all devices at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credits -/

theorem pe_eq_iff {a : Fin 3} {c d : Dev nD} : Iff (pe a c = d) (c = pe a d) :=
  ⟨fun h => by rw [← h, pe_pe], fun h => by rw [h, pe_pe]⟩

theorem owed_at_bar (d c : Dev nD) : owed d 0 (barCell c) () = 0 := by
  by_contra h
  obtain ⟨e, -, h⟩ := owed_pos (Nat.pos_of_ne_zero h)
  cases congrArg Prod.snd h

theorem tally_bar (a : Fin 3) (d c : Dev nD) :
    (tallyAt (barCell (pe a d)) () 1 : CellTallies nD τ sig Unit) (barCell c) () = if d = pe a c then 1 else 0 := by
  rw [tallyAt_apply]
  by_cases h : d = pe a c
  · subst h; rw [pe_pe, if_pos ⟨rfl, rfl⟩, if_pos rfl]
  · rw [if_neg (fun ⟨h1, _⟩ => h (pe_eq_iff.mp (dev_of_cell h1).symm)), if_neg h]

theorem owed_bar (d c : Dev nD) :
    O₀ d (barCell c) () = (if d = pe 2 c then 1 else 0) + (if d = pe 1 c then 1 else 0) + (if d = pe 0 c then 1 else 0) := by
  unfold O₀
  rw [Pi.add_apply, Finsupp.add_apply, Pi.add_apply, Finsupp.add_apply, Pi.add_apply, Finsupp.add_apply, owed_at_bar, Nat.zero_add,
    tally_bar, tally_bar, tally_bar]

theorem owed_recv (e : Fin 18) (d c : Dev nD) : O₀ d (recvCell e c) () = if d = peer e c then NN e else 0 := by
  have hb (a : Fin 3) : (tallyAt (barCell (pe a d)) () 1 : CellTallies nD τ sig Unit) (recvCell e c) () = 0 := by
    rw [tallyAt_apply]; exact if_neg fun h => by cases congrArg Prod.snd h.1
  unfold O₀ owed
  rw [Pi.add_apply, Finsupp.add_apply, Pi.add_apply, Finsupp.add_apply, Pi.add_apply, Finsupp.add_apply, hb, hb, hb, Nat.add_zero,
    Finset.sum_apply, Finsupp.finset_sum_apply]
  rw [Finset.sum_eq_single_of_mem e (Finset.mem_filter.mpr ⟨Finset.mem_univ _, Nat.zero_le _⟩) (fun e' _ hne => by
    rw [tallyAt_apply]; exact if_neg fun h => hne (recvS_inj (SemLoc.dma.inj (congrArg Prod.snd h.1))).symm)]
  rw [tallyAt_apply]
  by_cases h : d = peer e c
  · subst h; unfold peer; rw [pe_pe, if_pos ⟨rfl, rfl⟩, if_pos rfl]
  · rw [if_neg (fun ⟨h1, _⟩ => h (pe_eq_iff.mp (dev_of_cell h1).symm)), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pe 2 c) fun _ => 1, Finset.sum_ite_eq' Finset.univ (pe 1 c) fun _ => 1, Finset.sum_ite_eq' Finset.univ (pe 0 c) fun _ => 1,
    if_pos (Finset.mem_univ _), if_pos (Finset.mem_univ _), if_pos (Finset.mem_univ _)]

theorem launch_recv (e : Fin 18) (c : Dev nD) :
    tallyOn (recvCell e c) (launchCredit (Pipeline.owing O₀) 0 (recvCell e c)) = (tallyAt (recvCell e c) () (NN e) : CellTallies nD τ sig Unit) := by
  unfold tallyAt; refine congrArg _ (Finsupp.ext fun u => ?_); cases u
  rw [Pipeline.launchCredit_owing, Finsupp.single_eq_same, Finset.sum_congr rfl fun d _ => owed_recv e d c,
    Finset.sum_ite_eq' Finset.univ (peer e c) fun _ => NN e, if_pos (Finset.mem_univ _)]

theorem creds (c : Dev nD) :
    (Pipeline.launchCred O₀ c : sProp 𝕄) ⊢ iprop(cred (tallyAt (barCell c) () 3) ∗ bigSep Finset.univ fun e : Fin 18 => cred (tallyAt (recvCell e c) () (NN e))) := by
  unfold Pipeline.launchCred
  rw [bigSep_univ_at _ (SemLoc.reg barS), launch_bar]
  refine sep_mono_right ?_
  rw [show (bigSep Finset.univ fun e : Fin 18 => (cred (tallyAt (recvCell e c) () (NN e)) : sProp 𝕄))
      = bigSep (Finset.univ.map ⟨fun e : Fin 18 => (SemLoc.dma (recvS e) : SemLoc sig), fun _ _ h => recvS_inj (SemLoc.dma.inj h)⟩)
          (fun s => cred (tallyOn ((c : Thread nD τ), s) (launchCredit (Pipeline.owing O₀) 0 ((c : Thread nD τ), s)))) from by
    rw [bigSep_map]; exact bigSep_congr fun e _ => by rw [← launch_recv e c]; rfl]
  exact bigSep_subset (fun s hs => by
    obtain ⟨e, -, rfl⟩ := Finset.mem_map.mp hs
    exact Finset.mem_erase.mpr ⟨fun h => (by cases h), Finset.mem_univ _⟩)

end Cert.Exchange

end
-- ==== Proof.Run.lean ====
/-
The run: from any memory every device's kernel terminates, leaves its arguments, ends with every semaphore at zero and
with the staged result in its rows of `main_v1`.
-/
module

public import proofs.«01_k».proof.Proof.Ghost
public import Idealize.ShloMosaic.Lib.Quiescent
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Arguments and buffers -/

/-- What device `c` computes from: its arguments as its copies read them. -/
def inp (c : Dev nD) : Inp F where
  x := xM.view.read (Elt F) (m ((c : Thread nD τ).loc main_arg0))
  wq := m ((c : Thread nD τ).loc main_arg1)
  wk := (wkM c).view.read (Elt F) (m ((c : Thread nD τ).loc main_arg3))
  wv := (wvM c).view.read (Elt F) (m ((c : Thread nD τ).loc main_arg4))
  wo := m ((c : Thread nD τ).loc main_arg2)

/-- The share of the arguments that stays out of the run. -/
def Kept (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1))
    ∗ (((c : Thread nD τ).loc main_arg2) ↦{fullShare.left} m ((c : Thread nD τ).loc main_arg2))
    ∗ (((c : Thread nD τ).loc main_arg3) ↦{fullShare.left} m ((c : Thread nD τ).loc main_arg3))
    ∗ (((c : Thread nD τ).loc main_arg4) ↦{fullShare.left} m ((c : Thread nD τ).loc main_arg4)))

/-- Half of a buffer is kept, the part of the other half that a copy reads goes to the copy. -/
theorem arg_halves (c : Dev nD) {s : Shape} {el : EltTy} {sp : Space} (M : Memref sig .tc sp s el) (f : Buf (Elt F) (M.view.loc (c : Thread nD τ))) :
    (M.view.loc (c : Thread nD τ) ↦{fullShare} f : sProp 𝕄)
      ⊢ iprop((M.view.loc (c : Thread nD τ) ↦{fullShare.left} f) ∗ owns (c : Thread nD τ) M half (M.view.read (Elt F) f)) := by
  have hs : (M.view.loc (c : Thread nD τ) ↦{fullShare} f : sProp 𝕄) ⊢ iprop((M.view.loc (c : Thread nD τ) ↦{fullShare.left} f) ∗ (M.view.loc (c : Thread nD τ) ↦{half} f)) :=
    (pointsTo_share (PosShare.mem_left_op_right fullShare)).1
  have hp : (M.view.loc (c : Thread nD τ) ↦{half} f : sProp 𝕄)
      ⊢ iprop((M.view.loc (c : Thread nD τ) ↦[M.view.set]{half} f) ∗ (M.view.loc (c : Thread nD τ) ↦[Finset.univ \ M.view.set]{half} f)) :=
    (pointsTo_split_subset (Finset.subset_univ _)).1
  iintro H
  ihave H := hs $$ H
  icases H with ⟨HL, HR⟩
  ihave HR := hp $$ HR
  icases HR with ⟨HR, -⟩
  isplitl [HL]; · iexact HL
  unfold owns
  iexists f
  isplitr; · ipureintro; rfl
  iexact HR

theorem some_whole (c : Dev nD) (b : Ref sig .tc) : (iprop(∃ f, (Memref.whole b).view.loc (c : Thread nD τ) ↦[(Memref.whole b).view.set]{fullShare} f) : sProp 𝕄) = anyBuf c b := by
  simp only [Memref.view_whole, View.set_whole]

theorem owns_any (c : Dev nD) {s : Shape} {el : EltTy} (M : Memref sig .tc .vmem s el) (X : s.Idx → Elt F el) :
    (owns (c : Thread nD τ) M fullShare X : sProp 𝕄) ⊢ some' c M := by
  unfold owns
  iintro ⟨%f, -, H⟩
  iexists f; iexact H

/-- The buffers on the core. -/
def Scratch (c : Dev nD) : sProp 𝕄 :=
  iprop(anyBuf c cc0_scratch0 ∗ anyBuf c cc0_scratch1 ∗ anyBuf c cc0_scratch2 ∗ anyBuf c cc0_scratch3 ∗ anyBuf c cc0_scratch4 ∗ anyBuf c cc0_scratch5
    ∗ anyBuf c cc0_scratch7 ∗ anyBuf c cc0_scratch8 ∗ anyBuf c cc0_scratch9 ∗ anyBuf c cc0_scratch10 ∗ anyBuf c cc0_scratch11 ∗ anyBuf c cc0_scratch12)

theorem scratch_split (c : Dev nD) : (Scratch c : sProp 𝕄) ⊢ iprop(Bufs c ∗ anyBuf c cc0_scratch5 ∗ SendBufs c ∗ RecvBufs c) := by
  unfold Scratch Bufs SendBufs RecvBufs
  rw [← some_whole c cc0_scratch0, ← some_whole c cc0_scratch1, ← some_whole c cc0_scratch2, ← some_whole c cc0_scratch3, ← some_whole c cc0_scratch4]
  iintro ⟨H0, H1, H2, H3, H4, H5, H7, H8, H9, Hr⟩
  isplitl [H0 H1 H2 H3 H4]
  · isplitl [H0]; · iexact H0
    isplitl [H1]; · iexact H1
    isplitl [H2]; · iexact H2
    isplitl [H3]; · iexact H3
    iexact H4
  isplitl [H5]; · iexact H5
  isplitl [H7 H8 H9]
  · isplitl [H7]; · iexact H7
    isplitl [H8]; · iexact H8
    iexact H9
  iexact Hr

theorem scratch_join (I : Dev nD → Inp F) (c : Dev nD) :
    iprop(Copied I c ∗ owns (c : Thread nD τ) wo_s fullShare (I c).wo ∗ anyBuf c cc0_scratch5 ∗ SendBufs c ∗ RecvBufs c) ⊢ (Scratch c : sProp 𝕄) := by
  unfold Scratch Copied SendBufs RecvBufs
  rw [← some_whole c cc0_scratch0, ← some_whole c cc0_scratch1, ← some_whole c cc0_scratch2, ← some_whole c cc0_scratch3, ← some_whole c cc0_scratch4]
  iintro ⟨⟨H0, H1, H2, H3⟩, H4, H5, ⟨H7, H8, H9⟩, Hr⟩
  isplitl [H0]; · iapply (owns_any c x_s _); iexact H0
  isplitl [H1]; · iapply (owns_any c wq_s _); iexact H1
  isplitl [H2]; · iapply (owns_any c wk_s _); iexact H2
  isplitl [H3]; · iapply (owns_any c wv_s _); iexact H3
  isplitl [H4]; · iapply (owns_any c wo_s _); iexact H4
  isplitl [H5]; · iexact H5
  isplitl [H7]; · iexact H7
  isplitl [H8]; · iexact H8
  isplitl [H9]; · iexact H9
  iexact Hr

theorem ins_eq (c : Dev nD) : (ins c : sProp 𝕄)
    = iprop(semVal ((c : Thread nD τ), .dma (inS 0)) 0 ∗ semVal ((c : Thread nD τ), .dma (inS 1)) 0 ∗ semVal ((c : Thread nD τ), .dma (inS 2)) 0
      ∗ semVal ((c : Thread nD τ), .dma (inS 3)) 0 ∗ semVal ((c : Thread nD τ), .dma (inS 4)) 0 ∗ semVal ((c : Thread nD τ), .dma (inS 5)) 0
      ∗ semVal ((c : Thread nD τ), .dma (inS 6)) 0) := by
  unfold ins
  exact bigSep_univ_eq_bigSepL [0, 1, 2, 3, 4, 5, 6] (by decide) (by decide) _

/-! ## Before and after the body -/

def start (c : Dev nD) : sProp 𝕄 :=
  iprop(G' (pieces (inp m)) c ∗ (cred (tallyAt (barCell c) () 3) ∗ bigSep Finset.univ fun e : Fin 18 => cred (tallyAt (recvCell e c) () (NN e)))
    ∗ levAts L lv ∗ Args (inp m) c ∗ anyBuf c main_v1)

def Φ₀ (c : Dev nD) : sProp 𝕄 := iprop(start m c ∗ Scratch c)
def Φ₁ (c : Dev nD) : sProp 𝕄 :=
  iprop(Result (inp m) c ∗ semVal (barCell c) 0 ∗ ins c ∗ (bigSep Finset.univ fun e => iprop(semVal (sendCell e c) 0 ∗ semVal (recvCell e c) 0)) ∗ Scratch c)

theorem early_cred (X : Fin 2 → (p : Fin 3) → Dev nD → FVec F (sP p) .bf16) (K : Dev nD × CI → ℕ) (c : Dev nD) :
    iprop((bigSep Finset.univ fun e => EarlyG X K e c) ∗ (bigSep Finset.univ fun e : Fin 18 => cred (tallyAt (recvCell e c) () (NN e))))
      ⊢ bigSep Finset.univ (fun e => Early X K e c) := by
  have one (e : Fin 18) : iprop(EarlyG X K e c ∗ cred (tallyAt (recvCell e c) () (NN e))) ⊢ Early X K e c := by
    unfold EarlyG Early
    iintro ⟨⟨#Hr, HtS, HtR, HaS, HaR⟩, Hc⟩
    isplitr; · iexact Hr
    isplitl [HtS]; · iexact HtS
    isplitl [HtR]; · iexact HtR
    isplitl [HaS]; · iexact HaS
    isplitl [HaR]; · iexact HaR
    iexact Hc
  rw [← bigSep_sep']
  exact bigSep_mono fun e _ => one e

/-- The body from `Φ₀` to `Φ₁`. -/
theorem sound_body (c : Dev nD) {Q : PUnit → sProp 𝕄} :
    ⊢ iprop(Φ₀ m c -∗ owesO c (O₀ c) -∗ (Φ₁ m c -∗ owesN c 18 -∗ Q ⟨⟩) -∗ wpc c (bodyP (F := F)) Q) := by
  unfold Φ₀ start G'
  rw [ins_eq]
  iintro ⟨⟨⟨%K, HT, HB, HE, ⟨V0, V1, V2, V3, V4, V5, V6⟩⟩, ⟨Hcb, Hcr⟩, #Hlev, HA, Hv⟩, HS⟩ HO Hk
  ihave HT' := (Entails.of_eq (bigSep_three (F := F) fun a => SigTok (pieces (inp m)) K a c)) $$ HT
  icases HT' with ⟨T0, T1, T2⟩
  ihave HS' := (scratch_split c) $$ HS
  icases HS' with ⟨HBufs, H5, HSend, HRecv⟩
  ihave HL := (recv_split c) $$ HRecv
  icases HL with ⟨L0, L1, L2⟩
  ihave HSl := (send_split c) $$ HSend
  ihave HOut := (out_split c) $$ H5
  ihave HR := (rows_split c) $$ Hv
  icases HR with ⟨R0, R1⟩
  ihave HE' := (early_cred (pieces (inp m)) K c) $$ [HE Hcr]
  · isplitl [HE] <;> iassumption
  iapply (body_run (inp m) K c (Q := Q)) $$ [] [HA] [HBufs] [V0 V1 V2 V3 V4] [V5] [V6] [T0] [L0] [T1] [L1] [T2] [L2] [HB Hcb] [HO] [HE'] [HSl] [HOut] [R0] [R1]
  · iexact Hlev
  · iexact HA
  · iexact HBufs
  · unfold InSems
    isplitl [V0]; · iexact V0
    isplitl [V1]; · iexact V1
    isplitl [V2]; · iexact V2
    isplitl [V3]; · iexact V3
    iexact V4
  · iexact V5
  · iexact V6
  · iexact T0
  · iexact L0
  · iexact T1
  · iexact L1
  · iexact T2
  · iexact L2
  · unfold BarG BarTok
    icases HB with ⟨#HI, Ha⟩
    isplitr; · iexact HI
    isplitl [Ha]; · iexact Ha
    iexact Hcb
  · iexact HO
  · iexact HE'
  · iexact HSl
  · iexact HOut
  · iexact R0
  · iexact R1
  iintro Hz HC Hwo HV V5 V6 HD HSl HRes HSt Hn
  ihave HD' := (recv_join (pieces (inp m)) c) $$ HD
  icases HD' with ⟨HD, HRecv⟩
  ihave HSend := (send_join c) $$ HSl
  ihave H5 := (staged_join (inp m) c) $$ HSt
  iapply Hk $$ [Hz HC Hwo HV V5 V6 HD HSend HRecv H5 HRes] [Hn]
  · unfold Φ₁ InSems
    rw [ins_eq]
    icases HV with ⟨V0, V1, V2, V3, V4⟩
    isplitl [HRes]; · iexact HRes
    isplitl [Hz]; · iexact Hz
    isplitl [V0 V1 V2 V3 V4 V5 V6]
    · isplitl [V0]; · iexact V0
      isplitl [V1]; · iexact V1
      isplitl [V2]; · iexact V2
      isplitl [V3]; · iexact V3
      isplitl [V4]; · iexact V4
      isplitl [V5]; · iexact V5
      iexact V6
    isplitl [HD]; · iexact HD
    iapply (scratch_join (inp m) c)
    isplitl [HC]; · iexact HC
    isplitl [Hwo]; · iexact Hwo
    isplitl [H5]; · iexact H5
    isplitl [HSend]; · iexact HSend
    iexact HRecv
  · iexact Hn

/-! ## The launch's data -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 8000 in
theorem body_obligation (c : Dev nD) : BodyObligation (dats (F := F) m 0 c) (defs₀ (F := F)) 𝒱₀ () Set.univ := fun t => by
  rw [show t = t0_0 from fin_N0 t]
  have hw (Ψ : Fin cfg0.W → sProp 𝕄) : bigSep Finset.univ Ψ = iprop(emp) := by
    rw [show (Finset.univ : Finset (Fin cfg0.W)) = ∅ from Finset.univ_eq_empty_iff.mpr ⟨fun w => w.elim0⟩, bigSep_empty]
    rfl
  rw [hw, hw]
  show iprop(Φ₀ m c ∗ (dats m 0 c).owesAt () t0_0.castSucc ∗ emp) ⊢ wpc c (bodyP (F := F)) fun _ => iprop(Φ₁ m c ∗ (dats m 0 c).owesAt () t0_0.succ ∗ emp)
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (sound_body m c) $$ [HΦ] [HO]
  · iexact HΦ
  · unfold owesO; iexists W; iexact HO
  iintro HΦ Hn
  unfold owesN
  rw [owed_end]
  icases Hn with ⟨%W', HO⟩
  isplitl [HΦ]; · iexact HΦ
  isplitl [HO]
  · iexists W'
    isplitr; · ipureintro; exact fun _ _ => Or.inl trivial
    iexact HO
  iempintro

theorem ownSemFacts : Pipeline.OwnSemFacts cfg0.spec osem :=
  ⟨by decide +kernel, osem_inj, fun _ w => w.elim0⟩

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w => w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (pieces (inp m)) c)
      ⊢ |={Set.univ}=> iprop(start m c ∗ Kept m c) := by
  rw [Pipeline.unscopedRestP_none, unscopedRest0_eq]
  iintro ⟨⟨H0, H1, H2, H3, H4, Hv⟩, Hlev, Hcr, -, HG⟩
  ihave Hc := (creds (F := F) c) $$ Hcr
  ihave H0 := (arg_halves c xM (m ((c : Thread nD τ).loc main_arg0))) $$ [H0]
  · iexact H0
  ihave H1 := (arg_halves c qM (m ((c : Thread nD τ).loc main_arg1))) $$ [H1]
  · iexact H1
  ihave H2 := (arg_halves c oM (m ((c : Thread nD τ).loc main_arg2))) $$ [H2]
  · iexact H2
  ihave H3 := (arg_halves c (wkM c) (m ((c : Thread nD τ).loc main_arg3))) $$ [H3]
  · iexact H3
  ihave H4 := (arg_halves c (wvM c) (m ((c : Thread nD τ).loc main_arg4))) $$ [H4]
  · iexact H4
  icases H0 with ⟨K0, H0⟩
  icases H1 with ⟨K1, H1⟩
  icases H2 with ⟨K2, H2⟩
  icases H3 with ⟨K3, H3⟩
  icases H4 with ⟨K4, H4⟩
  imodintro
  isplitr [K0 K1 K2 K3 K4]
  · unfold start
    isplitl [HG]; · iexact HG
    isplitl [Hc]; · iexact Hc
    isplitl [Hlev]; · iexact Hlev
    isplitr [Hv]
    · unfold Args
      isplitl [H0]; · iexact H0
      isplitl [H1]; · iexact H1
      isplitl [H3]; · iexact H3
      isplitl [H4]; · iexact H4
      iexact H2
    iexists _; iexact Hv
  · unfold Kept
    isplitl [K0]; · iexact K0
    isplitl [K1]; · iexact K1
    isplitl [K2]; · iexact K2
    isplitl [K3]; · iexact K3
    iexact K4

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, Hr⟩
  isplitl [Hs]; · iexact Hs
  iexact Hr

theorem phi1_exit (c : Dev nD) :
    (dats m 0 c).Φ (Fin.last cfg0.N)
      ⊢ iprop((Result (inp m) c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ Scratch
  rw [bigSep_sep']
  iintro ⟨HR, Hz, Hi, ⟨HS, HV⟩, Hb⟩
  isplitl [HR Hz]
  · isplitl [HR] <;> iassumption
  isplitl [Hi HS HV]
  · isplitl [Hi]; · iexact Hi
    isplitl [HS] <;> iassumption
  iexact Hb

/-! ## The end state -/

theorem read_back (c : Dev nD) {s : Shape} {el : EltTy} {sp : Space} (M : Memref sig .tc sp s el) (q : PosShare TreeShare) (X : s.Idx → Elt F el)
    (s' : Phys nD τ sig (Elt F)) :
    iprop(owns (c : Thread nD τ) M q X ∗ SI s') ⊢ (iprop(⌜M.view.read (Elt F) (s'.mem.mem (M.view.loc (c : Thread nD τ))) = X⌝ ∗ SI s') : sProp 𝕄) := by
  unfold owns
  iintro ⟨⟨%f, %hf, H⟩, HSI⟩
  icombine HSI H gives %h
  isplitr
  · ipureintro; rw [← hf]; exact View.read_congr h
  iexact HSI

theorem keep_back (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

/-- A device's part of the end state. -/
def Ends (c : Dev nD) (s : MemSt nD τ sig (Elt F)) : Prop :=
  (∀ rb, (hRow rb).view.read (Elt F) (s.mem ((c : Thread nD τ).loc main_v1)) = outRow (inp m) rb c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem ends_read (c : Dev nD) (s' : Phys nD τ sig (Elt F)) :
    iprop((Result (inp m) c ∗ unscopedSems0 c) ∗ Kept m c ∗ SI s')
      ⊢ |={Set.univ}=> (iprop(⌜Ends m c s'.mem ∧ ∀ sm : SemLoc sig, sm.isScoped .tc = false → s'.mem.sem ((c.tc : Thread nD τ), sm) = 0⌝ ∗ SI s') : sProp 𝕄) := by
  unfold Result Kept
  iintro ⟨⟨⟨R0, R1⟩, Hu⟩, ⟨K0, K1, K2, K3, K4⟩, HSI⟩
  ihave H := (read_back c (hRow 0) fullShare _ s') $$ [R0 HSI]
  · isplitl [R0] <;> iassumption
  icases H with ⟨%r0, HSI⟩
  ihave H := (read_back c (hRow 1) fullShare _ s') $$ [R1 HSI]
  · isplitl [R1] <;> iassumption
  icases H with ⟨%r1, HSI⟩
  ihave H := (keep_back _ _ _ s') $$ [K0 HSI]
  · isplitl [K0] <;> iassumption
  icases H with ⟨%k0, HSI⟩
  ihave H := (keep_back _ _ _ s') $$ [K1 HSI]
  · isplitl [K1] <;> iassumption
  icases H with ⟨%k1, HSI⟩
  ihave H := (keep_back _ _ _ s') $$ [K2 HSI]
  · isplitl [K2] <;> iassumption
  icases H with ⟨%k2, HSI⟩
  ihave H := (keep_back _ _ _ s') $$ [K3 HSI]
  · isplitl [K3] <;> iassumption
  icases H with ⟨%k3, HSI⟩
  ihave H := (keep_back _ _ _ s') $$ [K4 HSI]
  · isplitl [K4] <;> iassumption
  icases H with ⟨%k4, HSI⟩
  imod (Pipeline.unscopedSems0_read (X := unscopedSems0 c) (c := c) fupd_intro s') $$ [Hu HSI] with ⟨%hz, HSI⟩
  · isplitl [Hu] <;> iassumption
  imodintro
  isplitr
  · ipureintro
    refine ⟨⟨fun rb => ?_, k0, k1, k2, k3, k4⟩, hz⟩
    match rb with
    | 0 => exact r0
    | 1 => exact r1
  iexact HSI

set_option maxRecDepth 8000 in
/-- From any memory with zero counters every weakly fair execution on the eight devices terminates; at its end every
    device's result rows hold the sums of the exchanged pieces, its arguments what they held, every counter zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (pieces (inp m))) (G' := G' (pieces (inp m))) (u₀ := u₀)
    (hu₀ := by
      unfold u₀
      iintro Hu
      ihave H := (ownU_parts _ _) $$ Hu
      icases H with ⟨HP, HX⟩
      imod (fund_cells (pieces (inp m))) $$ HX with HG
      imodintro
      isplitl [HP] <;> iassumption)
    (hglob := glob (pieces (inp m)))
    (hA := fun _ w => w.elim0) (hpf := fun _ k => k.elim0)
    (X := start m) (Y := fun c => iprop(Result (inp m) c ∗ unscopedSems0 c)) (Z := Kept m)
    (hX := start_intro m ρ) (hin := phi0_intro m) (hout := phi1_exit m)
    (QY := fun c s => Ends m c s ∧ ∀ sm : SemLoc sig, sm.isScoped .tc = false → s.sem ((c.tc : Thread nD τ), sm) = 0)
    (hY := ends_read m)
    (hQ := fun _ h hs => ⟨fun c => (h c).2.2.1, sem_eq_zero hs fun c => (h c).2.2.2⟩)

end Cert.Exchange

end
-- ==== Proof.Frames.lean ====
/-
The three frames: each program terminates, leaves its arguments and ends with every semaphore at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

theorem frame_ki : Cert.quiescent_KernelIdeal (hKernelIdeal := Cert.KernelIdeal.Gen.facts) := fun m ρ _ =>
  (θ_run Cert.KernelIdeal.defs _ _).mono (fun _ h => ⟨fun c => (h.1 c).2, h.2⟩) (Cert.Exchange.run_main (F := Ideal) m ρ)

/-- The printed program is, word for word, the one read over the extended reals. -/
theorem frame_k : Cert.quiescent_Kernel (hKernel := Cert.Kernel.Gen.facts) := fun m ρ _ =>
  (θ_run Cert.KernelIdeal.defs _ _).mono (fun _ h => ⟨fun c => (h.1 c).2, h.2⟩) (Cert.Exchange.run_main (F := Bits) m ρ)

theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attend.lean ====
/-
One head of attention over the extended reals: what the kernel's vector operations compute for it, entry by entry.
-/
module

public import proofs.«01_k».proof.Proof.Pieces
public import Idealize.ShloMosaic.Lib.MatmulPlain
public import Idealize.ShloMosaic.Lib.ValueLayout
public import Idealize.ShloMosaic.Lib.ValueLayoutCasts
public import Idealize.ShloMosaic.Lib.IdealHost

@[expose] public section

noncomputable section

namespace Cert.Exchange

open Cert.KernelIdeal Cert.KernelIdeal.Gen
open Idealize.ShloMosaic Idealize.ShloMosaic.ValueIdx

/-! ## Attention of one query -/

/-- The greatest score, from minus infinity on. -/
def top (s : Fin 256 → EReal) : EReal := (Finset.univ : Finset (Fin 256)).fold max (Ideal.ofBits .f32 0xFF800000#32) s

/-- The values `v` weighted by the softmax of the scores `s`. -/
def attend (s v : Fin 256 → EReal) : EReal := Ideal.div (∑ j, Ideal.exp (s j - top s) * v j) (∑ j, Ideal.exp (s j - top s))

/-- What the scores are scaled by. -/
def scale : EReal := Ideal.ofBits .f32 0x3DB504F3#32

/-! ## The kernel's operations at an entry -/

section Ops

theorem mm_1024_1024 (a : FVec Ideal S128x1024 .bf16) (b : FVec Ideal S1024x1024 .bf16) (i : Fin 128) (j : Fin 1024) :
    matmul dot_S128x1024_S1024x1024_S128x1024_1_0_0_1_n_n none a b (constant S128x1024 .f32 0x00000000#32) (ix2 i j)
      = ∑ k : Fin 1024, a (ix2 i k) * b (ix2 k j) := by
  refine (Ideal.matmul_plain_apply none a b (constant S128x1024 .f32 0x00000000#32) i j).trans ?_
  rw [constant_apply, Ideal.ofBits_zero_f32, zero_add]

theorem mm_1024_256 (a : FVec Ideal S256x1024 .bf16) (b : FVec Ideal S1024x256 .bf16) (i : Fin 256) (j : Fin 256) :
    matmul dot_S256x1024_S1024x256_S256x256_1_0_0_1_n_n none a b (constant S256x256 .f32 0x00000000#32) (ix2 i j)
      = ∑ k : Fin 1024, a (ix2 i k) * b (ix2 k j) := by
  refine (Ideal.matmul_plain_apply none a b (constant S256x256 .f32 0x00000000#32) i j).trans ?_
  rw [constant_apply, Ideal.ofBits_zero_f32, zero_add]

theorem mm_o384 (a : FVec Ideal S128x1024 .bf16) (b : FVec Ideal S1024x384 .bf16) (i : Fin 128) (j : Fin 384) :
    matmul dot_S128x1024_S1024x384_S128x384_1_0_0_1_n_n none a b (constant S128x384 .f32 0x00000000#32) (ix2 i j)
      = ∑ k : Fin 1024, a (ix2 i k) * b (ix2 k j) := by
  refine (Ideal.matmul_plain_apply none a b (constant S128x384 .f32 0x00000000#32) i j).trans ?_
  rw [constant_apply, Ideal.ofBits_zero_f32, zero_add]

theorem mm_o256 (a : FVec Ideal S128x1024 .bf16) (b : FVec Ideal S1024x256 .bf16) (i : Fin 128) (j : Fin 256) :
    matmul dot_S128x1024_S1024x256_S128x256_1_0_0_1_n_n none a b (constant S128x256 .f32 0x00000000#32) (ix2 i j)
      = ∑ k : Fin 1024, a (ix2 i k) * b (ix2 k j) := by
  refine (Ideal.matmul_plain_apply none a b (constant S128x256 .f32 0x00000000#32) i j).trans ?_
  rw [constant_apply, Ideal.ofBits_zero_f32, zero_add]

theorem mm_pv (a : FVec Ideal S128x256 .bf16) (b : FVec Ideal S256x128 .bf16) (i : Fin 128) (j : Fin 128) :
    matmul dot_S128x256_S256x128_S128x128_1_0_0_1_n_n none a b (constant S128x128 .f32 0x00000000#32) (ix2 i j)
      = ∑ k : Fin 256, a (ix2 i k) * b (ix2 k j) := by
  refine (Ideal.matmul_plain_apply none a b (constant S128x128 .f32 0x00000000#32) i j).trans ?_
  rw [constant_apply, Ideal.ofBits_zero_f32, zero_add]

theorem mm_qk (a : FVec Ideal S128x128 .bf16) (b : FVec Ideal S256x128 .bf16) (i : Fin 128) (j : Fin 256) :
    matmul dot_S128x128_S256x128_S128x256_1_1_0_0_n_n none a b (constant S128x256 .f32 0x00000000#32) (ix2 i j)
      = ∑ k : Fin 128, a (ix2 i k) * b (ix2 j k) := by
  refine (Ideal.matmul_transposedRhs_apply none a b (constant S128x256 .f32 0x00000000#32) i j).trans ?_
  rw [constant_apply, Ideal.ofBits_zero_f32, zero_add]

theorem row_lift (i : Fin 128) (k : Fin 256) : reduces_S128x256_S128.lift (ix1 i) k = ix2 i k := by
  funext a; apply Fin.ext
  match a with
  | ⟨0, _⟩ => rfl
  | ⟨1, _⟩ => rfl

theorem row_max (x : FVec Ideal S128x256 .f32) (i : Fin 128) :
    multiReduction .maximumf [1] S128 x 0xFF800000#32 reduces_S128x256_S128 (.inl rfl) rfl (ix1 i) = top fun j => x (ix2 i j) := by
  refine (Ideal.multiReduction_maximumf_single x _ _ _ _ _).trans ?_
  refine congrArg (Finset.fold max _ · Finset.univ) (funext fun k => ?_)
  exact congrArg x (row_lift i k)

theorem row_sum (x : FVec Ideal S128x256 .f32) (i : Fin 128) :
    multiReduction .add [1] S128 x 0x00000000#32 reduces_S128x256_S128 (.inl rfl) rfl (ix1 i) = ∑ j : Fin 256, x (ix2 i j) := by
  refine (Ideal.multiReduction_add_single x _ _ _ _ _).trans ?_
  exact Finset.sum_congr rfl fun k _ => congrArg x (row_lift i k)

theorem spread256 (x : FVec Ideal S128 .f32) (i : Fin 128) (j : Fin 256) :
    broadcastTo S128x256 (shapeCast S128x1 x shapeCasts_S128_S128x1) broadcasts_S128x1_S128x256 (ix2 i j) = x (ix1 i) := by
  refine (broadcastTo_apply _ _ _ (ix2 i 0) fun a => ?_).trans (shapeCast_a_a1_apply x _ i 0)
  match a with
  | ⟨0, _⟩ => rfl
  | ⟨1, _⟩ => rfl

theorem spread128 (x : FVec Ideal S128 .f32) (i : Fin 128) (j : Fin 128) :
    broadcastTo S128x128 (shapeCast S128x1 x shapeCasts_S128_S128x1) broadcasts_S128x1_S128x128 (ix2 i j) = x (ix1 i) := by
  refine (broadcastTo_apply _ _ _ (ix2 i 0) fun a => ?_).trans (shapeCast_a_a1_apply x _ i 0)
  match a with
  | ⟨0, _⟩ => rfl
  | ⟨1, _⟩ => rfl

end Ops

/-! ## One head -/

/-- The head of a query block `q`, a key block `k` and a value block `v`: the kernel's operations. -/
abbrev head {F : FTy → Type} [FloatOps F] (q : FVec F S128x128 .bf16) (k v : FVec F S256x128 .bf16) : FVec F S128x128 .f32 := k0_pay18 q k v

theorem head_apply (q : FVec Ideal S128x128 .bf16) (k v : FVec Ideal S256x128 .bf16) (i d : Fin 128) :
    head q k v (ix2 i d) = attend (fun j => (∑ t : Fin 128, q (ix2 i t) * k (ix2 j t)) * scale) (fun j => v (ix2 j d)) := by
  unfold head k0_pay18
  dsimp only
  have hs (j : Fin 256) : mulf (matmul dot_S128x128_S256x128_S128x256_1_1_0_0_n_n none q k (constant S128x256 .f32 0x00000000#32))
      (broadcast S128x256 (Scalar.ofBits (F := Ideal) .f32 0x3DB504F3#32)) (ix2 i j) = (∑ t : Fin 128, q (ix2 i t) * k (ix2 j t)) * scale := by
    rw [mulf_apply, mm_qk]; rfl
  rw [divf_apply, mm_pv, spread128, row_sum]
  have he (j : Fin 256) (s : FVec Ideal S128x256 .f32) : exp (subf s (broadcastTo S128x256 (shapeCast S128x1 (multiReduction .maximumf [1] S128 s 0xFF800000#32 reduces_S128x256_S128 (.inl rfl) rfl) shapeCasts_S128_S128x1) broadcasts_S128x1_S128x256)) (ix2 i j)
      = Ideal.exp (s (ix2 i j) - top fun j => s (ix2 i j)) := by
    show Ideal.exp (s (ix2 i j) - broadcastTo S128x256 _ broadcasts_S128x1_S128x256 (ix2 i j)) = _
    rw [spread256, row_max]
  simp only [truncf_apply, he, hs]
  rfl

end Cert.Exchange

end
-- ==== Proof.Heads.lean ====
/-
A device's contribution, entry by entry: its eight heads side by side, and the pieces of their product with the output projection.
-/
module

public import proofs.«01_k».proof.Proof.Attend

@[expose] public section

noncomputable section

namespace Cert.Exchange

open Cert.KernelIdeal Cert.KernelIdeal.Gen
open Idealize.ShloMosaic Idealize.ShloMosaic.ValueIdx

variable {F : FTy → Type} [FloatOps F]

/-! ## The eight heads of a row block -/

theorem sliceQ (h : Fin 8) : S128x1024.Slices ![0, 128 * h.val] S128x128 := by revert h; decide
theorem sliceK (h : Fin 8) : S256x256.Slices ![0, 128 * (h.val / 4)] S256x128 := by revert h; decide

/-- Head `h` of the queries `q` with the keys and values of its group. -/
def headAt (q : FVec F S128x1024 .f32) (k v : FVec F S256x256 .bf16) (h : Fin 8) : FVec F S128x128 .f32 :=
  head (truncf .bf16 (extractStridedSlice S128x128 ![0, 128 * h.val] q (sliceQ h)) bitsLt_bf16_f32)
    (extractStridedSlice S256x128 ![0, 128 * (h.val / 4)] k (sliceK h)) (extractStridedSlice S256x128 ![0, 128 * (h.val / 4)] v (sliceK h))

theorem beside : Shape.Concatenates ((List.ofFn fun h : Fin 8 => (⟨S128x128, fun _ => ()⟩ : (s : Shape) × (s.Idx → Unit))).map (·.1)) S128x1024 1 :=
  concatenates_S128x128_S128x128_S128x128_S128x128_S128x128_S128x128_S128x128_S128x128_S128x1024_d1

/-- The heads side by side. -/
def joined (q : FVec F S128x1024 .f32) (k v : FVec F S256x256 .bf16) : FVec F S128x1024 .bf16 :=
  truncf .bf16 (concatenate S128x1024 1 (List.ofFn fun h : Fin 8 => (⟨S128x128, headAt q k v h⟩ : (s : Shape) × (s.Idx → F .f32))) beside) bitsLt_bf16_f32

namespace Inp
variable (i : Inp F)

theorem h0 : i.v74 = headAt i.v56 i.v44 i.v48 0 := rfl
theorem h1 : i.v92 = headAt i.v56 i.v44 i.v48 1 := rfl
theorem h2 : i.v110 = headAt i.v56 i.v44 i.v48 2 := rfl
theorem h3 : i.v128 = headAt i.v56 i.v44 i.v48 3 := rfl
theorem h4 : i.v146 = headAt i.v56 i.v44 i.v48 4 := rfl
theorem h5 : i.v164 = headAt i.v56 i.v44 i.v48 5 := rfl
theorem h6 : i.v182 = headAt i.v56 i.v44 i.v48 6 := rfl
theorem j0 : i.v202 = joined i.v56 i.v44 i.v48 := by
  rw [v202, h0, h1, h2, h3, h4, h5, h6]; rfl

theorem g0 : i.v273 = headAt i.v255 i.v44 i.v48 0 := rfl
theorem g1 : i.v291 = headAt i.v255 i.v44 i.v48 1 := rfl
theorem g2 : i.v309 = headAt i.v255 i.v44 i.v48 2 := rfl
theorem g3 : i.v327 = headAt i.v255 i.v44 i.v48 3 := rfl
theorem g4 : i.v345 = headAt i.v255 i.v44 i.v48 4 := rfl
theorem g5 : i.v363 = headAt i.v255 i.v44 i.v48 5 := rfl
theorem g6 : i.v381 = headAt i.v255 i.v44 i.v48 6 := rfl
theorem j1 : i.v401 = joined i.v255 i.v44 i.v48 := by
  rw [v401, g0, g1, g2, g3, g4, g5, g6]; rfl

end Inp

/-! ## Entry by entry -/

theorem headAt_apply (q : FVec Ideal S128x1024 .f32) (k v : FVec Ideal S256x256 .bf16) (h : Fin 8) (i d : Fin 128) :
    headAt q k v h (ix2 i d)
      = attend (fun j => (∑ t : Fin 128, q (ix2 i ⟨128 * h.val + t.val, by omega⟩) * k (ix2 j ⟨128 * (h.val / 4) + t.val, by omega⟩)) * scale)
          (fun j => v (ix2 j ⟨128 * (h.val / 4) + d.val, by omega⟩)) := by
  rw [headAt, head_apply]
  simp only [truncf_apply]
  have hq (t : Fin 128) : extractStridedSlice S128x128 ![0, 128 * h.val] q (sliceQ h) (ix2 i t) = q (ix2 i ⟨128 * h.val + t.val, by omega⟩) :=
    slice2_axis1_apply _ q _ i t _ rfl
  have hk (x : FVec Ideal S256x256 .bf16) (j : Fin 256) (t : Fin 128) :
      extractStridedSlice S256x128 ![0, 128 * (h.val / 4)] x (sliceK h) (ix2 j t) = x (ix2 j ⟨128 * (h.val / 4) + t.val, by omega⟩) :=
    slice2_axis1_apply _ x _ j t _ rfl
  simp only [hq, hk]

theorem joined_apply (q : FVec Ideal S128x1024 .f32) (k v : FVec Ideal S256x256 .bf16) (i : Fin 128) (col : Fin 1024) :
    joined q k v (ix2 i col)
      = attend (fun j => (∑ t : Fin 128, q (ix2 i ⟨128 * (col.val / 128) + t.val, by omega⟩) * k (ix2 j ⟨128 * (col.val / 512) + t.val, by omega⟩)) * scale)
          (fun j => v (ix2 j ⟨128 * (col.val / 512) + col.val % 128, by omega⟩)) := by
  rw [joined, truncf_apply]
  refine (concatenate_ofFn_apply (s₁ := S128x128) (1 : Fin S128x1024.rank) (headAt q k v) beside rfl 128 rfl (ix2 i col) ⟨col.val / 128, by omega⟩ rfl
    (ix2 i ⟨col.val % 128, by omega⟩) rfl fun b hb => ?_).trans ?_
  · match b with
    | ⟨0, _⟩ => rfl
    | ⟨1, _⟩ => exact absurd rfl hb
  · rw [headAt_apply]
    have e : col.val / 128 / 4 = col.val / 512 := by omega
    simp only [e]

/-! ## A device's attention -/

namespace Inp
variable (u : Inp Ideal)

/-- The device's queries, keys and values. -/
def qv (i : Fin 256) (col : Fin 1024) : EReal := ∑ k : Fin 1024, u.x (ix2 i k) * u.wq (ix2 k col)
def kv (i : Fin 256) (col : Fin 256) : EReal := ∑ k : Fin 1024, u.x (ix2 i k) * u.wk (ix2 k col)
def vv (i : Fin 256) (col : Fin 256) : EReal := ∑ k : Fin 1024, u.x (ix2 i k) * u.wv (ix2 k col)

/-- The device's attention output at a row and one of its heads' columns. -/
def attn (i : Fin 256) (col : Fin 1024) : EReal :=
  attend (fun j => (∑ t : Fin 128, u.qv i ⟨128 * (col.val / 128) + t.val, by omega⟩ * u.kv j ⟨128 * (col.val / 512) + t.val, by omega⟩) * scale)
    (fun j => u.vv j ⟨128 * (col.val / 512) + col.val % 128, by omega⟩)

theorem v44_apply (i j : Fin 256) : u.v44 (ix2 i j) = u.kv i j := by
  rw [v44, k0_pay2]; simp only [truncf_apply, mm_1024_256]; rfl

theorem v48_apply (i j : Fin 256) : u.v48 (ix2 i j) = u.vv i j := by
  rw [v48, k0_pay3]; simp only [truncf_apply, mm_1024_256]; rfl

theorem v56_apply (i : Fin 128) (j : Fin 1024) : u.v56 (ix2 i j) = u.qv ⟨i.val, by omega⟩ j := by
  rw [v56, k0_pay6]
  refine (mm_1024_1024 _ _ i j).trans (Finset.sum_congr rfl fun k _ => congrArg₂ (· * ·) ?_ rfl)
  rw [v55, k0_pay5]
  exact slice2_axis0_apply _ _ _ i k ⟨i.val, by omega⟩ (by simp)

theorem v255_apply (i : Fin 128) (j : Fin 1024) : u.v255 (ix2 i j) = u.qv ⟨128 + i.val, by omega⟩ j := by
  rw [v255, k0_pay30]
  refine (mm_1024_1024 _ _ i j).trans (Finset.sum_congr rfl fun k _ => congrArg₂ (· * ·) ?_ rfl)
  exact slice2_axis0_apply _ _ _ i k ⟨128 + i.val, by omega⟩ rfl

/-- The heads of row block `rb`, side by side. -/
def rows : Fin 2 → FVec Ideal S128x1024 .bf16
  | 0 => u.v202
  | 1 => u.v401

theorem rows_apply (rb : Fin 2) (i : Fin 128) (col : Fin 1024) : u.rows rb (ix2 i col) = u.attn ⟨rb.val * 128 + i.val, by omega⟩ col := by
  match rb with
  | 0 =>
    show u.v202 (ix2 i col) = _
    rw [j0, joined_apply, attn]
    simp only [v44_apply, v48_apply, v56_apply]
    have e : (⟨(0 : Fin 2).val * 128 + i.val, by omega⟩ : Fin 256) = ⟨i.val, by omega⟩ := Fin.ext (by simp)
    rw [e]
  | 1 =>
    show u.v401 (ix2 i col) = _
    rw [j1, joined_apply, attn]
    simp only [v44_apply, v48_apply, v255_apply]
    have e : (⟨(1 : Fin 2).val * 128 + i.val, by omega⟩ : Fin 256) = ⟨128 + i.val, by omega⟩ := Fin.ext (by simp)
    rw [e]

/-- The device's contribution to the result. -/
def contrib (i : Fin 256) (n : Fin 1024) : EReal := ∑ col : Fin 1024, u.attn i col * u.wo (ix2 col n)

theorem wo384_apply (p : Fin 2) (k : Fin 1024) (j : Fin 384) : u.wo384 p (ix2 k j) = u.wo (ix2 k ⟨p.val * 384 + j.val, by omega⟩) := by
  refine congrArg u.wo (funext fun a => Fin.ext ?_)
  match a with
  | ⟨0, _⟩ => exact (by simp : (0 : ℕ) + 1 * k.val = k.val)
  | ⟨1, _⟩ => exact (by simp : p.val * 384 + 1 * j.val = p.val * 384 + j.val)

theorem wo256_apply (k : Fin 1024) (j : Fin 256) : u.wo256 (ix2 k j) = u.wo (ix2 k ⟨768 + j.val, by omega⟩) := by
  refine congrArg u.wo (funext fun a => Fin.ext ?_)
  match a with
  | ⟨0, _⟩ => exact (by simp : (0 : ℕ) + 1 * k.val = k.val)
  | ⟨1, _⟩ => exact (by simp : 768 + 1 * j.val = 768 + j.val)

theorem wide384 (rb : Fin 2) (p : Fin 2) (i : Fin 128) (j : Fin 384) :
    truncf .bf16 (matmul dot_S128x1024_S1024x384_S128x384_1_0_0_1_n_n none (u.rows rb) (truncf .bf16 (u.wo384 p) bitsLt_bf16_f32)
      (constant S128x384 .f32 0x00000000#32)) bitsLt_bf16_f32 (ix2 i j)
      = u.contrib ⟨rb.val * 128 + i.val, by omega⟩ ⟨p.val * 384 + j.val, by omega⟩ := by
  rw [truncf_apply, mm_o384]
  refine Finset.sum_congr rfl fun k _ => congrArg₂ (· * ·) (u.rows_apply rb i k) ?_
  rw [truncf_apply, wo384_apply]

theorem wide256 (rb : Fin 2) (i : Fin 128) (j : Fin 256) :
    truncf .bf16 (matmul dot_S128x1024_S1024x256_S128x256_1_0_0_1_n_n none (u.rows rb) (truncf .bf16 u.wo256 bitsLt_bf16_f32)
      (constant S128x256 .f32 0x00000000#32)) bitsLt_bf16_f32 (ix2 i j)
      = u.contrib ⟨rb.val * 128 + i.val, by omega⟩ ⟨768 + j.val, by omega⟩ := by
  rw [truncf_apply, mm_o256]
  refine Finset.sum_congr rfl fun k _ => congrArg₂ (· * ·) (u.rows_apply rb i k) ?_
  rw [truncf_apply, wo256_apply]

theorem piece0_apply (rb : Fin 2) (i : Fin 128) (j : Fin 384) :
    u.piece rb 0 (ix2 i j : S128x384.Idx) = u.contrib ⟨rb.val * 128 + i.val, by omega⟩ ⟨j.val, by omega⟩ := by
  have e : (⟨j.val, by omega⟩ : Fin 1024) = ⟨(0 : Fin 2).val * 384 + j.val, by omega⟩ := Fin.ext (by simp)
  rw [e, ← wide384]
  match rb with
  | 0 => rfl
  | 1 => rfl

theorem piece1_apply (rb : Fin 2) (i : Fin 128) (j : Fin 384) :
    u.piece rb 1 (ix2 i j : S128x384.Idx) = u.contrib ⟨rb.val * 128 + i.val, by omega⟩ ⟨384 + j.val, by omega⟩ := by
  have e : (⟨384 + j.val, by omega⟩ : Fin 1024) = ⟨(1 : Fin 2).val * 384 + j.val, by omega⟩ := Fin.ext (by simp)
  rw [e, ← wide384]
  match rb with
  | 0 => rfl
  | 1 => rfl

theorem piece2_apply (rb : Fin 2) (i : Fin 128) (j : Fin 256) :
    u.piece rb 2 (ix2 i j : S128x256.Idx) = u.contrib ⟨rb.val * 128 + i.val, by omega⟩ ⟨768 + j.val, by omega⟩ := by
  rw [← wide256]
  match rb with
  | 0 => rfl
  | 1 => rfl

end Inp

/-! ## The sum over the devices -/

/-- The devices whose contributions a device holds after three rounds, each once. -/
theorem all_devices (p : Fin 3) (c : Dev nD) :
    (([c, pe ⟨(p.val + 0) % 3, by omega⟩ c, pe ⟨(p.val + 1) % 3, by omega⟩ c, pe ⟨(p.val + 0) % 3, by omega⟩ (pe ⟨(p.val + 1) % 3, by omega⟩ c),
      pe ⟨(p.val + 2) % 3, by omega⟩ c, pe ⟨(p.val + 0) % 3, by omega⟩ (pe ⟨(p.val + 2) % 3, by omega⟩ c),
      pe ⟨(p.val + 1) % 3, by omega⟩ (pe ⟨(p.val + 2) % 3, by omega⟩ c),
      pe ⟨(p.val + 0) % 3, by omega⟩ (pe ⟨(p.val + 1) % 3, by omega⟩ (pe ⟨(p.val + 2) % 3, by omega⟩ c))] : List (Dev nD)) : Multiset (Dev nD))
      = (Finset.univ : Finset (Dev nD)).val := by
  revert p c; decide +kernel

theorem rounds_sum (X : Fin 2 → (p : Fin 3) → Dev nD → FVec Ideal (sP p) .bf16) (rb : Fin 2) (p : Fin 3) (c : Dev nD) (j : (sP p).Idx) :
    part X rb p 3 c j = ∑ c' : Dev nD, X rb p c' j := by
  show _ = (Multiset.map (fun c' => X rb p c' j) (Finset.univ : Finset (Dev nD)).val).sum
  rw [← all_devices p c]
  simp only [Multiset.map_coe, List.map_cons, List.map_nil, Multiset.sum_coe, List.sum_cons, List.sum_nil, add_zero, part, addf_apply, add_assoc]

/-- The result of every device, entry by entry. -/
def total (I : Dev nD → Inp Ideal) (i : Fin 256) (n : Fin 1024) : EReal := ∑ c : Dev nD, (I c).contrib i n

theorem outP0_apply (I : Dev nD → Inp Ideal) (rb : Fin 2) (c : Dev nD) (i : Fin 128) (j : Fin 384) :
    outP I rb 0 c (ix2 i j : S128x384.Idx) = total I ⟨rb.val * 128 + i.val, by omega⟩ ⟨j.val, by omega⟩ := by
  refine (rounds_sum (pieces I) rb 0 c (ix2 i j : S128x384.Idx)).trans (Finset.sum_congr rfl fun c' _ => ?_)
  exact (I c').piece0_apply rb i j

theorem outP1_apply (I : Dev nD → Inp Ideal) (rb : Fin 2) (c : Dev nD) (i : Fin 128) (j : Fin 384) :
    outP I rb 1 c (ix2 i j : S128x384.Idx) = total I ⟨rb.val * 128 + i.val, by omega⟩ ⟨384 + j.val, by omega⟩ := by
  refine (rounds_sum (pieces I) rb 1 c (ix2 i j : S128x384.Idx)).trans (Finset.sum_congr rfl fun c' _ => ?_)
  exact (I c').piece1_apply rb i j

theorem outP2_apply (I : Dev nD → Inp Ideal) (rb : Fin 2) (c : Dev nD) (i : Fin 128) (j : Fin 256) :
    outP I rb 2 c (ix2 i j : S128x256.Idx) = total I ⟨rb.val * 128 + i.val, by omega⟩ ⟨768 + j.val, by omega⟩ := by
  refine (rounds_sum (pieces I) rb 2 c (ix2 i j : S128x256.Idx)).trans (Finset.sum_congr rfl fun c' _ => ?_)
  exact (I c').piece2_apply rb i j

end Cert.Exchange

end
-- ==== Proof.Reference.lean ====
/-
The reference's result, entry by entry: the softmax attention of all 64 heads and its product with the output projection.
-/
module

public import proofs.«01_k».proof.Proof.Attend
public import proofs.«01_k».proof.Proof.Gen.ReferenceIdeal.Run
public import Idealize.ShloMosaic.Lib.KernelVsHost

@[expose] public section

noncomputable section

namespace Cert.Attention

open Cert.ReferenceIdeal Cert.ReferenceIdeal.Gen
open Idealize.ShloMosaic Idealize.ShloMosaic.TcCoe Idealize.ShloMosaic.ValueIdx
open Cert.Exchange (top attend scale)

/-! ## The stages of the reference -/

section Stages
variable {F : FTy → Type} [FloatOps F]

def rQ (x : FVec F S1x256x1024 .f32) (w : FVec F S1024x8192 .f32) : FVec F S1x256x64x128 .f32 :=
  shapeCast _ (Host.dotGeneral dot_S1x256x1024_S1024x8192_S1x256x8192_2_0_01_1_n_n none x w) shapeCasts_S1x256x8192_S1x256x64x128

def rKV (x : FVec F S1x256x1024 .f32) (w : FVec F S1024x2048 .f32) : FVec F S1x256x64x128 .f32 :=
  shapeCast _ (broadcastInDim S1x256x16x4x128 ![0, 1, 2, 4] bcast_S1x256x16x128_S1x256x16x4x128_0_1_2_4
    (shapeCast _ (Host.dotGeneral dot_S1x256x1024_S1024x2048_S1x256x2048_2_0_01_1_n_n none x w) shapeCasts_S1x256x2048_S1x256x16x128)) shapeCasts_S1x256x16x4x128_S1x256x64x128

def rScore (q k : FVec F S1x256x64x128 .f32) : FVec F S1x64x256x256 .f32 :=
  mulf (Host.dotGeneral dot_S1x256x64x128_S1x256x64x128_S1x64x256x256_3_3_1_1_02_02 none q k)
    (broadcastInDim S1x64x256x256 ![] bcast_S_S1x64x256x256 (constant S_ .f32 0x3DB504F3#32))

def rMax (s : FVec F S1x64x256x256 .f32) : FVec F S1x64x256x1 .f32 :=
  maximumf (broadcastInDim S1x64x256x1 ![] bcast_S_S1x64x256x1 (constant S_ .f32 0xFF800000#32))
    (broadcastInDim S1x64x256x1 ![0, 1, 2] bcast_S1x64x256_S1x64x256x1_0_1_2
      (Host.reduce FloatOps.maximumf s (constant S_ .f32 0xFF800000#32) reducesTo_S1x64x256x256_S1x64x256_d3 h_S_))

def rAlpha (s : FVec F S1x64x256x256 .f32) : FVec F S1x64x256x1 .f32 :=
  Host.exp (subf (broadcastInDim S1x64x256x1 ![] bcast_S_S1x64x256x1 (constant S_ .f32 0xFF800000#32)) (rMax s))

def rWeight (s : FVec F S1x64x256x256 .f32) : FVec F S1x64x256x256 .f32 :=
  Host.exp (subf s (broadcastInDim S1x64x256x256 ![0, 1, 2, 3] bcast_S1x64x256x1_S1x64x256x256_0_1_2_3 (rMax s)))

def rDen (s : FVec F S1x64x256x256 .f32) : FVec F S1x64x256x1 .f32 :=
  addf (mulf (broadcastInDim S1x64x256x1 ![] bcast_S_S1x64x256x1 (constant S_ .f32 0x00000000#32)) (rAlpha s))
    (broadcastInDim S1x64x256x1 ![0, 1, 2] bcast_S1x64x256_S1x64x256x1_0_1_2
      (Host.reduceAdd (rWeight s) (constant S_ .f32 0x00000000#32) reducesTo_S1x64x256x256_S1x64x256_d3 h_S_))

def rNum (s : FVec F S1x64x256x256 .f32) (v : FVec F S1x256x64x128 .f32) : FVec F S1x256x64x128 .f32 :=
  addf (mulf (broadcastInDim S1x256x64x128 ![] bcast_S_S1x256x64x128 (constant S_ .f32 0x00000000#32))
      (broadcastInDim S1x256x64x128 ![0, 1, 2, 3] bcast_S1x256x64x1_S1x256x64x128_0_1_2_3
        (transpose S1x256x64x1 [0, 2, 1, 3] (rAlpha s) transposes_S1x64x256x1_S1x256x64x1_0_2_1_3)))
    (transpose S1x256x64x128 [0, 3, 1, 2] (Host.dotGeneral dot_S1x256x64x128_S1x64x256x256_S1x64x128x256_1_3_3_2_02_01 none v (rWeight s))
      transposes_S1x64x128x256_S1x256x64x128_0_3_1_2)

def rAttn (s : FVec F S1x64x256x256 .f32) (v : FVec F S1x256x64x128 .f32) : FVec F S1x256x64x128 .f32 :=
  Host.divf (rNum s v) (broadcastInDim S1x256x64x128 ![0, 1, 2, 3] bcast_S1x256x64x1_S1x256x64x128_0_1_2_3
    (transpose S1x256x64x1 [0, 2, 1, 3] (rDen s) transposes_S1x64x256x1_S1x256x64x1_0_2_1_3))

def rOut (x : FVec F S1x256x1024 .f32) (wq : FVec F S1024x8192 .f32) (wo : FVec F S8192x1024 .f32) (wk wv : FVec F S1024x2048 .f32) :
    FVec F S1x256x1024 .f32 :=
  Host.dotGeneral dot_S1x256x8192_S8192x1024_S1x256x1024_2_0_01_1_n_n none
    (shapeCast _ (rAttn (rScore (rQ x wq) (rKV x wk)) (rKV x wv)) shapeCasts_S1x256x64x128_S1x256x8192) wo

theorem res_eq (m : (ℓ : Loc nD τ sig) → Buf (Elt F) ℓ) (c : Dev nD) :
    Value.res_main_v38 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Stages

/-! ## The products at an entry -/

theorem dot_q (x : FVec Ideal S1x256x1024 .f32) (w : FVec Ideal S1024x8192 .f32) (b : Fin 1) (i : Fin 256) (j : Fin 8192) :
    Host.dotGeneral dot_S1x256x1024_S1024x8192_S1x256x8192_2_0_01_1_n_n none x w (ix3 b i j) = ∑ k : Fin 1024, x (ix3 b i k) * w (ix2 k j) := by
  refine (Ideal.dotGeneral_apply _ _ _ _ _ _).trans ?_
  rw [← Equiv.sum_comp (contrEquiv1 dot_S1x256x1024_S1024x8192_S1x256x8192_2_0_01_1_n_n 1024 rfl rfl).symm]
  refine Finset.sum_congr rfl fun k _ => congrArg₂ (· * ·) (congrArg x ?_) (congrArg w ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem dot_kv (x : FVec Ideal S1x256x1024 .f32) (w : FVec Ideal S1024x2048 .f32) (b : Fin 1) (i : Fin 256) (j : Fin 2048) :
    Host.dotGeneral dot_S1x256x1024_S1024x2048_S1x256x2048_2_0_01_1_n_n none x w (ix3 b i j) = ∑ k : Fin 1024, x (ix3 b i k) * w (ix2 k j) := by
  refine (Ideal.dotGeneral_apply _ _ _ _ _ _).trans ?_
  rw [← Equiv.sum_comp (contrEquiv1 dot_S1x256x1024_S1024x2048_S1x256x2048_2_0_01_1_n_n 1024 rfl rfl).symm]
  refine Finset.sum_congr rfl fun k _ => congrArg₂ (· * ·) (congrArg x ?_) (congrArg w ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem dot_o (x : FVec Ideal S1x256x8192 .f32) (w : FVec Ideal S8192x1024 .f32) (b : Fin 1) (i : Fin 256) (j : Fin 1024) :
    Host.dotGeneral dot_S1x256x8192_S8192x1024_S1x256x1024_2_0_01_1_n_n none x w (ix3 b i j) = ∑ k : Fin 8192, x (ix3 b i k) * w (ix2 k j) := by
  refine (Ideal.dotGeneral_apply _ _ _ _ _ _).trans ?_
  rw [← Equiv.sum_comp (contrEquiv1 dot_S1x256x8192_S8192x1024_S1x256x1024_2_0_01_1_n_n 8192 rfl rfl).symm]
  refine Finset.sum_congr rfl fun k _ => congrArg₂ (· * ·) (congrArg x ?_) (congrArg w ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem dot_score (q k : FVec Ideal S1x256x64x128 .f32) (b : Fin 1) (h : Fin 64) (i j : Fin 256) :
    Host.dotGeneral dot_S1x256x64x128_S1x256x64x128_S1x64x256x256_3_3_1_1_02_02 none q k (ix4 b h i j) = ∑ t : Fin 128, q (ix4 b i h t) * k (ix4 b j h t) := by
  refine (Ideal.dotGeneral_apply _ _ _ _ _ _).trans ?_
  rw [← Equiv.sum_comp (contrEquiv1 dot_S1x256x64x128_S1x256x64x128_S1x64x256x256_3_3_1_1_02_02 128 rfl rfl).symm]
  refine Finset.sum_congr rfl fun t _ => congrArg₂ (· * ·) (congrArg q ?_) (congrArg k ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

theorem dot_value (v : FVec Ideal S1x256x64x128 .f32) (p : FVec Ideal S1x64x256x256 .f32) (b : Fin 1) (h : Fin 64) (d : Fin 128) (i : Fin 256) :
    Host.dotGeneral dot_S1x256x64x128_S1x64x256x256_S1x64x128x256_1_3_3_2_02_01 none v p (ix4 b h d i) = ∑ j : Fin 256, v (ix4 b j h d) * p (ix4 b h i j) := by
  refine (Ideal.dotGeneral_apply _ _ _ _ _ _).trans ?_
  rw [← Equiv.sum_comp (contrEquiv1 dot_S1x256x64x128_S1x64x256x256_S1x64x128x256_1_3_3_2_02_01 256 rfl rfl).symm]
  refine Finset.sum_congr rfl fun t _ => congrArg₂ (· * ·) (congrArg v ?_) (congrArg p ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-! ## The reductions and the rearrangements at an entry -/

theorem reduces_keys : S1x64x256x256.Reduces [3] S1x64x256 := by decide

theorem keys_lift (b : Fin 1) (h : Fin 64) (i k : Fin 256) : reduces_keys.lift (ix3 b h i) k = ix4 b h i k := by
  funext a; apply Fin.ext
  match a with
  | ⟨0, _⟩ => rfl
  | ⟨1, _⟩ => rfl
  | ⟨2, _⟩ => rfl
  | ⟨3, _⟩ => rfl

theorem max_keys (s : FVec Ideal S1x64x256x256 .f32) (b : Fin 1) (h : Fin 64) (i : Fin 256) :
    Host.reduce FloatOps.maximumf s (constant S_ .f32 0xFF800000#32) reducesTo_S1x64x256x256_S1x64x256_d3 h_S_ (ix3 b h i) = top fun j => s (ix4 b h i j) := by
  refine (congrFun (hostReduce_maximumf_eq_multiReduction s 0xFF800000#32 reducesTo_S1x64x256x256_S1x64x256_d3 h_S_ reduces_keys (.inl rfl) rfl) _).trans ?_
  refine (Ideal.multiReduction_maximumf_single s _ _ _ _ _).trans ?_
  refine congrArg (Finset.fold max _ · Finset.univ) (funext fun k => ?_)
  exact congrArg s (keys_lift b h i k)

theorem sum_keys (s : FVec Ideal S1x64x256x256 .f32) (b : Fin 1) (h : Fin 64) (i : Fin 256) :
    Host.reduceAdd s (constant S_ .f32 0x00000000#32) reducesTo_S1x64x256x256_S1x64x256_d3 h_S_ (ix3 b h i) = ∑ j : Fin 256, s (ix4 b h i j) := by
  rw [hostReduceAdd_apply, Ideal.hostReduceAdd_single _ reduces_keys, constant_apply, Ideal.ofBits_zero_f32, zero_add]
  exact Finset.sum_congr rfl fun k _ => congrArg s (keys_lift b h i k)

theorem add_axis (x : FVec Ideal S1x64x256 .f32) (b : Fin 1) (h : Fin 64) (i : Fin 256) (u : Fin 1) :
    broadcastInDim S1x64x256x1 ![0, 1, 2] bcast_S1x64x256_S1x64x256x1_0_1_2 x (ix4 b h i u) = x (ix3 b h i) := by
  refine broadcastInDim_apply _ _ x _ (ix3 b h i) fun a => ?_
  match a with
  | ⟨0, _⟩ => exact Fin.val_eq_zero b
  | ⟨1, _⟩ => rfl
  | ⟨2, _⟩ => rfl

theorem over_keys (x : FVec Ideal S1x64x256x1 .f32) (b : Fin 1) (h : Fin 64) (i j : Fin 256) :
    broadcastInDim S1x64x256x256 ![0, 1, 2, 3] bcast_S1x64x256x1_S1x64x256x256_0_1_2_3 x (ix4 b h i j) = x (ix4 b h i 0) := by
  refine broadcastInDim_apply _ _ x _ (ix4 b h i 0) fun a => ?_
  match a with
  | ⟨0, _⟩ => exact Fin.val_eq_zero b
  | ⟨1, _⟩ => rfl
  | ⟨2, _⟩ => rfl
  | ⟨3, _⟩ => rfl

theorem over_columns (x : FVec Ideal S1x64x256x1 .f32) (b : Fin 1) (i : Fin 256) (h : Fin 64) (d : Fin 128) :
    broadcastInDim S1x256x64x128 ![0, 1, 2, 3] bcast_S1x256x64x1_S1x256x64x128_0_1_2_3
      (transpose S1x256x64x1 [0, 2, 1, 3] x transposes_S1x64x256x1_S1x256x64x1_0_2_1_3) (ix4 b i h d) = x (ix4 b h i 0) := by
  refine (broadcastInDim_apply _ _ _ _ (ix4 b i h 0) fun a => ?_).trans (transpose_apply _ x _ _ (ix4 b h i 0) fun a => ?_)
  · match a with
    | ⟨0, _⟩ => exact Fin.val_eq_zero b
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem back (x : FVec Ideal S1x64x128x256 .f32) (b : Fin 1) (i : Fin 256) (h : Fin 64) (d : Fin 128) :
    transpose S1x256x64x128 [0, 3, 1, 2] x transposes_S1x64x128x256_S1x256x64x128_0_3_1_2 (ix4 b i h d) = x (ix4 b h d i) := by
  refine transpose_apply _ x _ _ (ix4 b h d i) fun a => ?_
  match a with
  | ⟨0, _⟩ => rfl
  | ⟨1, _⟩ => rfl
  | ⟨2, _⟩ => rfl
  | ⟨3, _⟩ => rfl

/-! ## The stages at an entry -/

theorem rQ_apply (x : FVec Ideal S1x256x1024 .f32) (w : FVec Ideal S1024x8192 .f32) (i : Fin 256) (h : Fin 64) (t : Fin 128) :
    rQ x w (ix4 0 i h t) = ∑ k : Fin 1024, x (ix3 0 i k) * w (ix2 k ⟨128 * h.val + t.val, by omega⟩) := by
  rw [← dot_q]
  refine shapeCast_apply _ _ _ (ix3 0 i ⟨128 * h.val + t.val, by omega⟩) ?_
  refine (Shape.rowMajor_val_three _).trans (Eq.trans ?_ (Shape.rowMajor_val_four _).symm)
  show (0 * 256 + i.val) * 8192 + (128 * h.val + t.val) = ((0 * 256 + i.val) * 64 + h.val) * 128 + t.val
  omega

theorem rKV_apply (x : FVec Ideal S1x256x1024 .f32) (w : FVec Ideal S1024x2048 .f32) (i : Fin 256) (h : Fin 64) (t : Fin 128) :
    rKV x w (ix4 0 i h t) = ∑ k : Fin 1024, x (ix3 0 i k) * w (ix2 k ⟨128 * (h.val / 4) + t.val, by omega⟩) := by
  rw [← dot_kv]
  have hd : h.val / 4 < 16 := by omega
  refine (shapeCast_apply _ _ _ (ix5 0 i ⟨h.val / 4, hd⟩ ⟨h.val % 4, by omega⟩ t) ?_).trans
    ((broadcastInDim_apply _ _ _ _ (ix4 0 i ⟨h.val / 4, hd⟩ t) fun a => ?_).trans
      (shapeCast_apply _ _ _ (ix3 0 i ⟨128 * (h.val / 4) + t.val, by omega⟩) ?_))
  · refine (Shape.rowMajor_val_five _).trans (Eq.trans ?_ (Shape.rowMajor_val_four _).symm)
    show (((0 * 256 + i.val) * 16 + h.val / 4) * 4 + h.val % 4) * 128 + t.val = ((0 * 256 + i.val) * 64 + h.val) * 128 + t.val
    omega
  · match a with
    | ⟨0, _⟩ => rfl
    | ⟨1, _⟩ => rfl
    | ⟨2, _⟩ => rfl
    | ⟨3, _⟩ => rfl
  · refine (Shape.rowMajor_val_three _).trans (Eq.trans ?_ (Shape.rowMajor_val_four _).symm)
    show (0 * 256 + i.val) * 2048 + (128 * (h.val / 4) + t.val) = ((0 * 256 + i.val) * 16 + h.val / 4) * 128 + t.val
    omega

theorem rScore_apply (q k : FVec Ideal S1x256x64x128 .f32) (b : Fin 1) (h : Fin 64) (i j : Fin 256) :
    rScore q k (ix4 b h i j) = (∑ t : Fin 128, q (ix4 b i h t) * k (ix4 b j h t)) * scale := by
  rw [rScore, mulf_apply, dot_score, broadcastInDim_scalar_apply]; rfl

theorem top_absorbs (s : Fin 256 → EReal) : max (Ideal.ofBits .f32 0xFF800000#32) (top s) = top s :=
  max_eq_right (Finset.le_fold_max _ |>.mpr (Or.inl le_rfl))

theorem rMax_apply (s : FVec Ideal S1x64x256x256 .f32) (b : Fin 1) (h : Fin 64) (i : Fin 256) (u : Fin 1) :
    rMax s (ix4 b h i u) = top fun j => s (ix4 b h i j) := by
  rw [rMax, maximumf_apply, broadcastInDim_scalar_apply, add_axis, max_keys, constant_apply]
  exact top_absorbs _

theorem rWeight_apply (s : FVec Ideal S1x64x256x256 .f32) (b : Fin 1) (h : Fin 64) (i j : Fin 256) :
    rWeight s (ix4 b h i j) = Ideal.exp (s (ix4 b h i j) - top fun j => s (ix4 b h i j)) := by
  show Ideal.exp (s (ix4 b h i j) - broadcastInDim S1x64x256x256 ![0, 1, 2, 3] bcast_S1x64x256x1_S1x64x256x256_0_1_2_3 (rMax s) (ix4 b h i j)) = _
  rw [over_keys, rMax_apply]

theorem rDen_apply (s : FVec Ideal S1x64x256x256 .f32) (b : Fin 1) (h : Fin 64) (i : Fin 256) (u : Fin 1) :
    rDen s (ix4 b h i u) = ∑ j : Fin 256, Ideal.exp (s (ix4 b h i j) - top fun j => s (ix4 b h i j)) := by
  rw [rDen, addf_apply, mulf_apply, broadcastInDim_scalar_apply, add_axis, sum_keys, constant_apply, Ideal.ofBits_zero_f32, zero_mul, zero_add]
  exact Finset.sum_congr rfl fun j _ => rWeight_apply s b h i j

theorem rNum_apply (s : FVec Ideal S1x64x256x256 .f32) (v : FVec Ideal S1x256x64x128 .f32) (b : Fin 1) (i : Fin 256) (h : Fin 64) (d : Fin 128) :
    rNum s v (ix4 b i h d) = ∑ j : Fin 256, Ideal.exp (s (ix4 b h i j) - top fun j => s (ix4 b h i j)) * v (ix4 b j h d) := by
  rw [rNum, addf_apply, mulf_apply, broadcastInDim_scalar_apply, back, dot_value, constant_apply, Ideal.ofBits_zero_f32, zero_mul, zero_add]
  exact Finset.sum_congr rfl fun j _ => (mul_comm _ _).trans (congrArg (· * _) (rWeight_apply s b h i j))

theorem rAttn_apply (s : FVec Ideal S1x64x256x256 .f32) (v : FVec Ideal S1x256x64x128 .f32) (b : Fin 1) (i : Fin 256) (h : Fin 64) (d : Fin 128) :
    rAttn s v (ix4 b i h d) = attend (fun j => s (ix4 b h i j)) (fun j => v (ix4 b j h d)) := by
  rw [rAttn, hostDivf_apply, rNum_apply, over_columns, rDen_apply]; rfl

/-! ## The result -/

section Result
variable (x : FVec Ideal S1x256x1024 .f32) (wq : FVec Ideal S1024x8192 .f32) (wo : FVec Ideal S8192x1024 .f32) (wk wv : FVec Ideal S1024x2048 .f32)

def gq (i : Fin 256) (col : Fin 8192) : EReal := ∑ k : Fin 1024, x (ix3 0 i k) * wq (ix2 k col)
def gkv (w : FVec Ideal S1024x2048 .f32) (i : Fin 256) (col : Fin 2048) : EReal := ∑ k : Fin 1024, x (ix3 0 i k) * w (ix2 k col)

/-- The attention output at a row and a column of all heads. -/
def gattn (i : Fin 256) (col : Fin 8192) : EReal :=
  attend (fun j => (∑ t : Fin 128, gq x wq i ⟨128 * (col.val / 128) + t.val, by omega⟩ * gkv x wk j ⟨128 * (col.val / 512) + t.val, by omega⟩) * scale)
    (fun j => gkv x wv j ⟨128 * (col.val / 512) + col.val % 128, by omega⟩)

theorem rOut_apply (i : Fin 256) (n : Fin 1024) :
    rOut x wq wo wk wv (ix3 0 i n) = ∑ col : Fin 8192, gattn x wq wk wv i col * wo (ix2 col n) := by
  rw [rOut, dot_o]
  refine Finset.sum_congr rfl fun col _ => congrArg (· * _) ?_
  refine (shapeCast_apply _ _ _ (ix4 0 i ⟨col.val / 128, by omega⟩ ⟨col.val % 128, by omega⟩) ?_).trans ?_
  · refine (Shape.rowMajor_val_four _).trans (Eq.trans ?_ (Shape.rowMajor_val_three _).symm)
    show ((0 * 256 + i.val) * 64 + col.val / 128) * 128 + col.val % 128 = (0 * 256 + i.val) * 8192 + col.val
    omega
  · rw [rAttn_apply, gattn]
    have e : col.val / 128 / 4 = col.val / 512 := by omega
    simp only [rScore_apply, rQ_apply, rKV_apply, e]
    rfl

end Result

end Cert.Attention

end
-- ==== Proof.Value.lean ====
/-
The value claim: what every device ends with is the reference's result, over the extended reals.
-/
module

public import proofs.«01_k».proof.Defs
public import proofs.«01_k».proof.Proof.Heads
public import proofs.«01_k».proof.Proof.Reference
public import proofs.«01_k».proof.Proof.Run

@[expose] public section

noncomputable section

namespace Cert.Exchange

open Cert.KernelIdeal Cert.KernelIdeal.Gen
open Idealize.ShloMosaic Idealize.ShloMosaic.TcCoe Idealize.ShloMosaic.ValueIdx Idealize.SL.Sem
open Cert.Attention (gq gkv gattn rOut rOut_apply)

/-! ## The staged result at an entry -/

theorem ix384_eq (i k : ℕ) (hi : i < 128) (hk : k < 384) : ix384 i k hi hk = ix2 ⟨i, hi⟩ ⟨k, hk⟩ := by
  funext a
  match a with
  | ⟨0, _⟩ => rfl
  | ⟨1, _⟩ => rfl

theorem ix256_eq (i k : ℕ) (hi : i < 128) (hk : k < 256) : ix256 i k hi hk = ix2 ⟨i, hi⟩ ⟨k, hk⟩ := by
  funext a
  match a with
  | ⟨0, _⟩ => rfl
  | ⟨1, _⟩ => rfl

theorem total_congr (I : Dev nD → Inp Ideal) {i i' : Fin 256} {n n' : Fin 1024} (hi : i.val = i'.val) (hn : n.val = n'.val) :
    total I i n = total I i' n' := by rw [Fin.ext hi, Fin.ext hn]

theorem outAll_apply (I : Dev nD → Inp Ideal) (c : Dev nD) (j : S256x1024.Idx) : outAll I c j = total I (j 0) (j 1) := by
  have b0 : (j 0).val < 256 := (j 0).isLt
  have b1 : (j 1).val < 1024 := (j 1).isLt
  unfold outAll
  by_cases h0 : (j 1).val < 384
  · rw [dif_pos h0, ix384_eq]
    refine (outP0_apply I _ c _ _).trans (total_congr I ?_ rfl)
    show (j 0).val / 128 * 128 + (j 0).val % 128 = (j 0).val
    omega
  · rw [dif_neg h0]
    by_cases h1 : (j 1).val < 768
    · rw [dif_pos h1, ix384_eq]
      refine (outP1_apply I _ c _ _).trans (total_congr I ?_ ?_)
      · show (j 0).val / 128 * 128 + (j 0).val % 128 = (j 0).val
        omega
      · show 384 + ((j 1).val - 384) = (j 1).val
        omega
    · rw [dif_neg h1, ix256_eq]
      refine (outP2_apply I _ c _ _).trans (total_congr I ?_ ?_)
      · show (j 0).val / 128 * 128 + (j 0).val % 128 = (j 0).val
        omega
      · show 768 + ((j 1).val - 768) = (j 1).val
        omega

theorem outRow_apply (I : Dev nD → Inp Ideal) (rb : Fin 2) (c : Dev nD) (i : Fin 128) (n : Fin 1024) :
    outRow I rb c (ix2 i n) = total I ⟨rb.val * 128 + i.val, by omega⟩ n := by
  refine (outAll_apply I c _).trans (total_congr I ?_ ?_)
  · show rb.val * 128 + 1 * i.val = rb.val * 128 + i.val
    omega
  · show 0 + 1 * n.val = n.val
    omega

/-- A row of the result as the copy of its row block leaves it. -/
theorem hRow_apply (f : S1x256x1024.Idx → EReal) (rb : Fin 2) (i : Fin 128) (n : Fin 1024) :
    (hRow rb).view.read (Elt Ideal) f (ix2 i n) = f (ix3 0 ⟨rb.val * 128 + i.val, by omega⟩ n) := by
  refine (congrFun (Memref.read_squeeze_slice (Val := Elt Ideal) (Memref.whole main_v1) (rcH1024 rb) (fun _ => rfl) squeezes_S1x128x1024_S128x1024 (by show S1x128x1024.ShapeCasts S128x1024; decide) f) (ix2 i n)).trans ?_
  refine (shapeCast_1ab_ab_apply _ _ i n).trans (congrArg f (funext fun a => Fin.ext ?_))
  match a with
  | ⟨0, _⟩ => rfl
  | ⟨1, _⟩ => exact (by omega : rb.val * 128 + 1 * i.val = rb.val * 128 + i.val)
  | ⟨2, _⟩ => exact (by omega : 0 + 1 * n.val = n.val)

theorem result_apply (m : (ℓ : Loc nD τ sig) → Buf (Elt Ideal) ℓ) (c : Dev nD) (f : S1x256x1024.Idx → EReal)
    (h : ∀ rb, (hRow rb).view.read (Elt Ideal) f = outRow (inp m) rb c) (i : Fin 256) (n : Fin 1024) :
    f (ix3 0 i n) = total (inp m) i n := by
  have hr := congrFun (h ⟨i.val / 128, by omega⟩) (ix2 ⟨i.val % 128, by omega⟩ n)
  rw [hRow_apply, outRow_apply] at hr
  have e : (⟨i.val / 128 * 128 + i.val % 128, by omega⟩ : Fin 256) = i := Fin.ext (by show i.val / 128 * 128 + i.val % 128 = i.val; omega)
  simp only [e] at hr
  exact hr

/-! ## A device's inputs in the whole arrays -/

theorem kvOff (c : Dev nD) : k0_off1 c = ![0, 256 * c.val] := by revert c; decide +kernel

theorem x_apply (f : S1x256x1024.Idx → EReal) (i : Fin 256) (k : Fin 1024) : xM.view.read (Elt Ideal) f (ix2 i k) = f (ix3 0 i k) := by
  refine (congrFun (Memref.read_squeeze_slice (Val := Elt Ideal) (Memref.whole main_arg0) (Rect.unit (s := S1x256x1024) ![0, 0, 0] S1x256x1024.size inb_S1x256x1024_S1x256x1024_0_0_0)
    (fun _ => rfl) squeezes_S1x256x1024_S256x1024 (by decide) f) (ix2 i k)).trans ?_
  refine (shapeCast_1ab_ab_apply _ _ i k).trans (congrArg f (funext fun a => Fin.ext ?_))
  match a with
  | ⟨0, _⟩ => rfl
  | ⟨1, _⟩ => exact (by omega : 0 + 1 * i.val = i.val)
  | ⟨2, _⟩ => exact (by omega : 0 + 1 * k.val = k.val)

theorem kvEmb (c : Dev nD) (k : Fin 1024) (l : Fin 256) :
    ((kvRect c).emb (ix2 k l : S1024x256.Idx) : S1024x2048.Idx) = ix2 k ⟨256 * c.val + l.val, by have : c.val < 8 := c.isLt; omega⟩ := by
  have h0 : k0_off1 c 0 = 0 := congrFun (kvOff c) 0
  have h1 : k0_off1 c 1 = 256 * c.val := congrFun (kvOff c) 1
  funext a; apply Fin.ext
  match a with
  | ⟨0, _⟩ =>
    show k0_off1 c 0 + 1 * k.val = k.val
    omega
  | ⟨1, _⟩ =>
    show k0_off1 c 1 + 1 * l.val = 256 * c.val + l.val
    omega

/-- Device `c`'s inputs are its part of the whole arrays. -/
structure Part (c : Fin 8) (u : Inp Ideal) (x : S1x256x1024.Idx → EReal) (wq : (⟨2, ![1024, 8192]⟩ : Shape).Idx → EReal)
    (wo : (⟨2, ![8192, 1024]⟩ : Shape).Idx → EReal) (wk wv : S1024x2048.Idx → EReal) : Prop where
  hx : ∀ (i : Fin 256) (k : Fin 1024), u.x (ix2 i k) = x (ix3 0 i k)
  hq : ∀ (k : Fin 1024) (l : Fin 1024), u.wq (ix2 k l) = wq (ix2 k ⟨1024 * c.val + l.val, by omega⟩)
  hk : ∀ (k : Fin 1024) (l : Fin 256), u.wk (ix2 k l) = wk (ix2 k ⟨256 * c.val + l.val, by omega⟩)
  hv : ∀ (k : Fin 1024) (l : Fin 256), u.wv (ix2 k l) = wv (ix2 k ⟨256 * c.val + l.val, by omega⟩)
  ho : ∀ (l : Fin 1024) (n : Fin 1024), u.wo (ix2 l n) = wo (ix2 ⟨1024 * c.val + l.val, by omega⟩ n)

namespace Part
variable {c : Fin 8} {u : Inp Ideal} {x : S1x256x1024.Idx → EReal} {wq : (⟨2, ![1024, 8192]⟩ : Shape).Idx → EReal}
  {wo : (⟨2, ![8192, 1024]⟩ : Shape).Idx → EReal} {wk wv : S1024x2048.Idx → EReal} (P : Part c u x wq wo wk wv)

include P in
theorem qv_eq (i : Fin 256) (l : Fin 1024) (L : Fin 8192) (h : L.val = 1024 * c.val + l.val) : u.qv i l = gq x wq i L := by
  obtain ⟨L, hL⟩ := L
  obtain rfl : L = 1024 * c.val + l.val := h
  exact Finset.sum_congr rfl fun k _ => by rw [P.hx, P.hq]

include P in
theorem kv_eq (i : Fin 256) (l : Fin 256) (L : Fin 2048) (h : L.val = 256 * c.val + l.val) : u.kv i l = gkv x wk i L := by
  obtain ⟨L, hL⟩ := L
  obtain rfl : L = 256 * c.val + l.val := h
  exact Finset.sum_congr rfl fun k _ => by rw [P.hx, P.hk]

include P in
theorem vv_eq (i : Fin 256) (l : Fin 256) (L : Fin 2048) (h : L.val = 256 * c.val + l.val) : u.vv i l = gkv x wv i L := by
  obtain ⟨L, hL⟩ := L
  obtain rfl : L = 256 * c.val + l.val := h
  exact Finset.sum_congr rfl fun k _ => by rw [P.hx, P.hv]

include P in
theorem attn_eq (i : Fin 256) (l : Fin 1024) : u.attn i l = gattn x wq wk wv i ⟨1024 * c.val + l.val, by omega⟩ := by
  refine congrArg₂ attend (funext fun j => congrArg (· * scale) (Finset.sum_congr rfl fun t _ => congrArg₂ (· * ·) ?_ ?_)) (funext fun j => ?_)
  · refine P.qv_eq i _ _ ?_
    show 128 * ((1024 * c.val + l.val) / 128) + t.val = 1024 * c.val + (128 * (l.val / 128) + t.val)
    omega
  · refine P.kv_eq j _ _ ?_
    show 128 * ((1024 * c.val + l.val) / 512) + t.val = 256 * c.val + (128 * (l.val / 512) + t.val)
    omega
  · refine P.vv_eq j _ _ ?_
    show 128 * ((1024 * c.val + l.val) / 512) + (1024 * c.val + l.val) % 128 = 256 * c.val + (128 * (l.val / 512) + l.val % 128)
    omega

include P in
theorem contrib_eq (i : Fin 256) (n : Fin 1024) :
    u.contrib i n = ∑ l : Fin 1024, gattn x wq wk wv i ⟨1024 * c.val + l.val, by omega⟩ * wo (ix2 ⟨1024 * c.val + l.val, by omega⟩ n) :=
  Finset.sum_congr rfl fun l _ => by rw [P.attn_eq, P.ho]

end Part

/-- A sum over all columns is the sum over the devices of the sums over their columns. -/
theorem sum_columns (f : Fin 8192 → EReal) : ∑ K : Fin 8192, f K = ∑ c : Fin 8, ∑ l : Fin 1024, f ⟨1024 * c.val + l.val, by omega⟩ := by
  rw [← Fintype.sum_prod_type' (fun (c : Fin 8) (l : Fin 1024) => f ⟨1024 * c.val + l.val, by omega⟩),
    ← Equiv.sum_comp (finProdFinEquiv (m := 8) (n := 1024)) f]
  refine Finset.sum_congr rfl fun p _ => congrArg f (Fin.ext ?_)
  show p.2.val + 1024 * p.1.val = 1024 * p.1.val + p.2.val
  omega

theorem total_eq (I : Dev nD → Inp Ideal) (x : S1x256x1024.Idx → EReal) (wq : (⟨2, ![1024, 8192]⟩ : Shape).Idx → EReal)
    (wo : (⟨2, ![8192, 1024]⟩ : Shape).Idx → EReal) (wk wv : S1024x2048.Idx → EReal) (P : ∀ c, Part c (I c) x wq wo wk wv) (i : Fin 256) (n : Fin 1024) :
    total I i n = rOut (F := Ideal) x wq wo wk wv (ix3 0 i n) := by
  rw [rOut_apply, sum_columns]
  exact Finset.sum_congr rfl fun c _ => (P c).contrib_eq i n

end Cert.Exchange

namespace Cert.Proof

open Idealize.ShloMosaic Idealize.ShloMosaic.TcCoe Idealize.ShloMosaic.ValueIdx Idealize.SL.Sem

theorem value : Cert.algebraic_KernelIdeal_ReferenceIdeal (hKernelIdeal := Cert.KernelIdeal.Gen.facts) (hReferenceIdeal := Cert.ReferenceIdeal.Gen.facts) := by
  intro m ρ m' ρ' _ hin
  refine ⟨Cert.ReferenceIdeal.Value.res_main_v38 m' 0, ?_, ?_⟩
  · refine (θ_run Cert.KernelIdeal.defs _ _).mono (fun r h c => ⟨?_, (h.1 c).2⟩) (Cert.Exchange.run_main (F := Ideal) m ρ)
    rw [Cert.Attention.res_eq]
    have P : ∀ c, Cert.Exchange.Part c (Cert.Exchange.inp m c) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) := by
      intro d
      obtain ⟨e0, e1, e2, e3, e4⟩ := hin d
      refine ⟨fun i k => ?_, fun k l => ?_, fun k l => ?_, fun k l => ?_, fun l n => ?_⟩
      · rw [← e0]; exact Cert.Exchange.x_apply _ i k
      · refine (congrFun e1 (ix2 k l)).trans (congrArg (m' _) (funext fun a => Fin.ext ?_))
        match a with
        | ⟨0, _⟩ => rfl
        | ⟨1, _⟩ => exact congrArg (· + l.val) (Nat.mul_comm d.val 1024)
      · rw [← e3, ← Cert.Exchange.kvEmb d k l]; rfl
      · rw [← e4, ← Cert.Exchange.kvEmb d k l]; rfl
      · refine (congrFun e2 (ix2 l n)).trans (congrArg (m' _) (funext fun a => Fin.ext ?_))
        match a with
        | ⟨0, _⟩ => exact congrArg (· + l.val) (Nat.mul_comm d.val 1024)
        | ⟨1, _⟩ => rfl
    funext j
    obtain ⟨z, i, n, rfl⟩ : ∃ (z : Fin 1) (i : Fin 256) (n : Fin 1024), j = ix3 z i n := ⟨j 0, j 1, j 2, eq_ix3 j⟩
    obtain rfl : z = 0 := Subsingleton.elim _ _
    exact (Cert.Exchange.result_apply m c _ (h.1 c).1 i n).trans (Cert.Exchange.total_eq _ _ _ _ _ _ P i n)
  · exact (θ_run Cert.ReferenceIdeal.defs _ _).mono (fun r h => h 0) (Cert.ReferenceIdeal.Value.run (F := Ideal) m' ρ')

end Cert.Proof

end
-- ==== Proof.lean ====
/-
The claim, from the proofs of its parts.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim := ⟨Cert.Kernel.Gen.facts, Cert.KernelIdeal.Gen.facts, Cert.ReferenceIdeal.Gen.facts,
  frame_k, frame_ki, frame_r, trivial, value⟩

end Cert.Proof

end
